-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_HgQ (m : (ℓ : Loc Cert.HgQ.nD Cert.HgQ.τ Cert.HgQ.sig) → Buf (Elt Bits) ℓ) : Prop :=
  True

def Pre_HgQIdeal (m : (ℓ : Loc Cert.HgQIdeal.nD Cert.HgQIdeal.τ Cert.HgQIdeal.sig) → Buf (Elt Ideal) ℓ) : Prop :=
  True

def Pre_HgQRefIdeal (m : (ℓ : Loc Cert.HgQRefIdeal.nD Cert.HgQRefIdeal.τ Cert.HgQRefIdeal.sig) → Buf (Elt Ideal) ℓ) : Prop :=
  True

def Pre_HgZ (m : (ℓ : Loc Cert.HgZ.nD Cert.HgZ.τ Cert.HgZ.sig) → Buf (Elt Bits) ℓ) : Prop :=
  True

def Pre_HgZIdeal (m : (ℓ : Loc Cert.HgZIdeal.nD Cert.HgZIdeal.τ Cert.HgZIdeal.sig) → Buf (Elt Ideal) ℓ) : Prop :=
  True

def Pre_HgZRefIdeal (m : (ℓ : Loc Cert.HgZRefIdeal.nD Cert.HgZRefIdeal.τ Cert.HgZRefIdeal.sig) → Buf (Elt Ideal) ℓ) : Prop :=
  True

def Pre_HgVG (m : (ℓ : Loc Cert.HgVG.nD Cert.HgVG.τ Cert.HgVG.sig) → Buf (Elt Bits) ℓ) : Prop :=
  True

def Pre_HgVGIdeal (m : (ℓ : Loc Cert.HgVGIdeal.nD Cert.HgVGIdeal.τ Cert.HgVGIdeal.sig) → Buf (Elt Ideal) ℓ) : Prop :=
  True

def Pre_HgVGRefIdeal (m : (ℓ : Loc Cert.HgVGRefIdeal.nD Cert.HgVGRefIdeal.τ Cert.HgVGRefIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerRefIdeal (m : (ℓ : Loc Cert.LayerRefIdeal.nD Cert.LayerRefIdeal.τ Cert.LayerRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_HgQ [hHgQ : Cert.HgQ.Facts] : Prop :=
  ∀ (m : (ℓ : Loc Cert.HgQ.nD Cert.HgQ.τ Cert.HgQ.sig) → Buf (Elt Bits) ℓ) (g : Dev Cert.HgQ.nD → PrngReg), Pre_HgQ m →
    θ_run (Cert.HgQ.defs (F := Bits)) (onTc (τ := Cert.HgQ.τ) (Cert.HgQ.main (F := Bits))) ⟨m, fun _ => 0, g⟩ (fun r => (∀ c : Dev Cert.HgQ.nD,
      r.2.mem ((c.tc : Thread Cert.HgQ.nD Cert.HgQ.τ).loc Cert.HgQ.main_arg0) = m ((c.tc : Thread Cert.HgQ.nD Cert.HgQ.τ).loc Cert.HgQ.main_arg0)
      ∧ r.2.mem ((c.tc : Thread Cert.HgQ.nD Cert.HgQ.τ).loc Cert.HgQ.main_arg1) = m ((c.tc : Thread Cert.HgQ.nD Cert.HgQ.τ).loc Cert.HgQ.main_arg1))
      ∧ r.2.sem = fun _ => 0)

def quiescent_HgQIdeal [hHgQIdeal : Cert.HgQIdeal.Facts] : Prop :=
  ∀ (m : (ℓ : Loc Cert.HgQIdeal.nD Cert.HgQIdeal.τ Cert.HgQIdeal.sig) → Buf (Elt Ideal) ℓ) (g : Dev Cert.HgQIdeal.nD → PrngReg), Pre_HgQIdeal m →
    θ_run (Cert.HgQIdeal.defs (F := Ideal)) (onTc (τ := Cert.HgQIdeal.τ) (Cert.HgQIdeal.main (F := Ideal))) ⟨m, fun _ => 0, g⟩ (fun r => (∀ c : Dev Cert.HgQIdeal.nD,
      r.2.mem ((c.tc : Thread Cert.HgQIdeal.nD Cert.HgQIdeal.τ).loc Cert.HgQIdeal.main_arg0) = m ((c.tc : Thread Cert.HgQIdeal.nD Cert.HgQIdeal.τ).loc Cert.HgQIdeal.main_arg0)
      ∧ r.2.mem ((c.tc : Thread Cert.HgQIdeal.nD Cert.HgQIdeal.τ).loc Cert.HgQIdeal.main_arg1) = m ((c.tc : Thread Cert.HgQIdeal.nD Cert.HgQIdeal.τ).loc Cert.HgQIdeal.main_arg1))
      ∧ r.2.sem = fun _ => 0)

def quiescent_HgQRefIdeal [hHgQRefIdeal : Cert.HgQRefIdeal.Facts] : Prop :=
  ∀ (m : (ℓ : Loc Cert.HgQRefIdeal.nD Cert.HgQRefIdeal.τ Cert.HgQRefIdeal.sig) → Buf (Elt Ideal) ℓ) (g : Dev Cert.HgQRefIdeal.nD → PrngReg), Pre_HgQRefIdeal m →
    θ_run (Cert.HgQRefIdeal.defs (F := Ideal)) (onTc (τ := Cert.HgQRefIdeal.τ) (Cert.HgQRefIdeal.main (F := Ideal))) ⟨m, fun _ => 0, g⟩ (fun r => (∀ c : Dev Cert.HgQRefIdeal.nD,
      r.2.mem ((c.tc : Thread Cert.HgQRefIdeal.nD Cert.HgQRefIdeal.τ).loc Cert.HgQRefIdeal.main_arg0) = m ((c.tc : Thread Cert.HgQRefIdeal.nD Cert.HgQRefIdeal.τ).loc Cert.HgQRefIdeal.main_arg0)
      ∧ r.2.mem ((c.tc : Thread Cert.HgQRefIdeal.nD Cert.HgQRefIdeal.τ).loc Cert.HgQRefIdeal.main_arg1) = m ((c.tc : Thread Cert.HgQRefIdeal.nD Cert.HgQRefIdeal.τ).loc Cert.HgQRefIdeal.main_arg1))
      ∧ r.2.sem = fun _ => 0)

def quiescent_HgZ [hHgZ : Cert.HgZ.Facts] : Prop :=
  ∀ (m : (ℓ : Loc Cert.HgZ.nD Cert.HgZ.τ Cert.HgZ.sig) → Buf (Elt Bits) ℓ) (g : Dev Cert.HgZ.nD → PrngReg), Pre_HgZ m →
    θ_run (Cert.HgZ.defs (F := Bits)) (onTc (τ := Cert.HgZ.τ) (Cert.HgZ.main (F := Bits))) ⟨m, fun _ => 0, g⟩ (fun r => (∀ c : Dev Cert.HgZ.nD,
      r.2.mem ((c.tc : Thread Cert.HgZ.nD Cert.HgZ.τ).loc Cert.HgZ.main_arg0) = m ((c.tc : Thread Cert.HgZ.nD Cert.HgZ.τ).loc Cert.HgZ.main_arg0)
      ∧ r.2.mem ((c.tc : Thread Cert.HgZ.nD Cert.HgZ.τ).loc Cert.HgZ.main_arg1) = m ((c.tc : Thread Cert.HgZ.nD Cert.HgZ.τ).loc Cert.HgZ.main_arg1))
      ∧ r.2.sem = fun _ => 0)

def quiescent_HgZIdeal [hHgZIdeal : Cert.HgZIdeal.Facts] : Prop :=
  ∀ (m : (ℓ : Loc Cert.HgZIdeal.nD Cert.HgZIdeal.τ Cert.HgZIdeal.sig) → Buf (Elt Ideal) ℓ) (g : Dev Cert.HgZIdeal.nD → PrngReg), Pre_HgZIdeal m →
    θ_run (Cert.HgZIdeal.defs (F := Ideal)) (onTc (τ := Cert.HgZIdeal.τ) (Cert.HgZIdeal.main (F := Ideal))) ⟨m, fun _ => 0, g⟩ (fun r => (∀ c : Dev Cert.HgZIdeal.nD,
      r.2.mem ((c.tc : Thread Cert.HgZIdeal.nD Cert.HgZIdeal.τ).loc Cert.HgZIdeal.main_arg0) = m ((c.tc : Thread Cert.HgZIdeal.nD Cert.HgZIdeal.τ).loc Cert.HgZIdeal.main_arg0)
      ∧ r.2.mem ((c.tc : Thread Cert.HgZIdeal.nD Cert.HgZIdeal.τ).loc Cert.HgZIdeal.main_arg1) = m ((c.tc : Thread Cert.HgZIdeal.nD Cert.HgZIdeal.τ).loc Cert.HgZIdeal.main_arg1))
      ∧ r.2.sem = fun _ => 0)

def quiescent_HgZRefIdeal [hHgZRefIdeal : Cert.HgZRefIdeal.Facts] : Prop :=
  ∀ (m : (ℓ : Loc Cert.HgZRefIdeal.nD Cert.HgZRefIdeal.τ Cert.HgZRefIdeal.sig) → Buf (Elt Ideal) ℓ) (g : Dev Cert.HgZRefIdeal.nD → PrngReg), Pre_HgZRefIdeal m →
    θ_run (Cert.HgZRefIdeal.defs (F := Ideal)) (onTc (τ := Cert.HgZRefIdeal.τ) (Cert.HgZRefIdeal.main (F := Ideal))) ⟨m, fun _ => 0, g⟩ (fun r => (∀ c : Dev Cert.HgZRefIdeal.nD,
      r.2.mem ((c.tc : Thread Cert.HgZRefIdeal.nD Cert.HgZRefIdeal.τ).loc Cert.HgZRefIdeal.main_arg0) = m ((c.tc : Thread Cert.HgZRefIdeal.nD Cert.HgZRefIdeal.τ).loc Cert.HgZRefIdeal.main_arg0)
      ∧ r.2.mem ((c.tc : Thread Cert.HgZRefIdeal.nD Cert.HgZRefIdeal.τ).loc Cert.HgZRefIdeal.main_arg1) = m ((c.tc : Thread Cert.HgZRefIdeal.nD Cert.HgZRefIdeal.τ).loc Cert.HgZRefIdeal.main_arg1))
      ∧ r.2.sem = fun _ => 0)

def quiescent_HgVG [hHgVG : Cert.HgVG.Facts] : Prop :=
  ∀ (m : (ℓ : Loc Cert.HgVG.nD Cert.HgVG.τ Cert.HgVG.sig) → Buf (Elt Bits) ℓ) (g : Dev Cert.HgVG.nD → PrngReg), Pre_HgVG m →
    θ_run (Cert.HgVG.defs (F := Bits)) (onTc (τ := Cert.HgVG.τ) (Cert.HgVG.main (F := Bits))) ⟨m, fun _ => 0, g⟩ (fun r => (∀ c : Dev Cert.HgVG.nD,
      r.2.mem ((c.tc : Thread Cert.HgVG.nD Cert.HgVG.τ).loc Cert.HgVG.main_arg0) = m ((c.tc : Thread Cert.HgVG.nD Cert.HgVG.τ).loc Cert.HgVG.main_arg0)
      ∧ r.2.mem ((c.tc : Thread Cert.HgVG.nD Cert.HgVG.τ).loc Cert.HgVG.main_arg1) = m ((c.tc : Thread Cert.HgVG.nD Cert.HgVG.τ).loc Cert.HgVG.main_arg1))
      ∧ r.2.sem = fun _ => 0)

def quiescent_HgVGIdeal [hHgVGIdeal : Cert.HgVGIdeal.Facts] : Prop :=
  ∀ (m : (ℓ : Loc Cert.HgVGIdeal.nD Cert.HgVGIdeal.τ Cert.HgVGIdeal.sig) → Buf (Elt Ideal) ℓ) (g : Dev Cert.HgVGIdeal.nD → PrngReg), Pre_HgVGIdeal m →
    θ_run (Cert.HgVGIdeal.defs (F := Ideal)) (onTc (τ := Cert.HgVGIdeal.τ) (Cert.HgVGIdeal.main (F := Ideal))) ⟨m, fun _ => 0, g⟩ (fun r => (∀ c : Dev Cert.HgVGIdeal.nD,
      r.2.mem ((c.tc : Thread Cert.HgVGIdeal.nD Cert.HgVGIdeal.τ).loc Cert.HgVGIdeal.main_arg0) = m ((c.tc : Thread Cert.HgVGIdeal.nD Cert.HgVGIdeal.τ).loc Cert.HgVGIdeal.main_arg0)
      ∧ r.2.mem ((c.tc : Thread Cert.HgVGIdeal.nD Cert.HgVGIdeal.τ).loc Cert.HgVGIdeal.main_arg1) = m ((c.tc : Thread Cert.HgVGIdeal.nD Cert.HgVGIdeal.τ).loc Cert.HgVGIdeal.main_arg1))
      ∧ r.2.sem = fun _ => 0)

def quiescent_HgVGRefIdeal [hHgVGRefIdeal : Cert.HgVGRefIdeal.Facts] : Prop :=
  ∀ (m : (ℓ : Loc Cert.HgVGRefIdeal.nD Cert.HgVGRefIdeal.τ Cert.HgVGRefIdeal.sig) → Buf (Elt Ideal) ℓ) (g : Dev Cert.HgVGRefIdeal.nD → PrngReg), Pre_HgVGRefIdeal m →
    θ_run (Cert.HgVGRefIdeal.defs (F := Ideal)) (onTc (τ := Cert.HgVGRefIdeal.τ) (Cert.HgVGRefIdeal.main (F := Ideal))) ⟨m, fun _ => 0, g⟩ (fun r => (∀ c : Dev Cert.HgVGRefIdeal.nD,
      r.2.mem ((c.tc : Thread Cert.HgVGRefIdeal.nD Cert.HgVGRefIdeal.τ).loc Cert.HgVGRefIdeal.main_arg0) = m ((c.tc : Thread Cert.HgVGRefIdeal.nD Cert.HgVGRefIdeal.τ).loc Cert.HgVGRefIdeal.main_arg0)
      ∧ r.2.mem ((c.tc : Thread Cert.HgVGRefIdeal.nD Cert.HgVGRefIdeal.τ).loc Cert.HgVGRefIdeal.main_arg1) = m ((c.tc : Thread Cert.HgVGRefIdeal.nD Cert.HgVGRefIdeal.τ).loc Cert.HgVGRefIdeal.main_arg1))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10)
      ∧ r.2.mem ((c.tc : Thread Cert.Layer.nD Cert.Layer.τ).loc Cert.Layer.main_arg11) = m ((c.tc : Thread Cert.Layer.nD Cert.Layer.τ).loc Cert.Layer.main_arg11)
      ∧ r.2.mem ((c.tc : Thread Cert.Layer.nD Cert.Layer.τ).loc Cert.Layer.main_arg12) = m ((c.tc : Thread Cert.Layer.nD Cert.Layer.τ).loc Cert.Layer.main_arg12)
      ∧ r.2.mem ((c.tc : Thread Cert.Layer.nD Cert.Layer.τ).loc Cert.Layer.main_arg13) = m ((c.tc : Thread Cert.Layer.nD Cert.Layer.τ).loc Cert.Layer.main_arg13)
      ∧ r.2.mem ((c.tc : Thread Cert.Layer.nD Cert.Layer.τ).loc Cert.Layer.main_arg14) = m ((c.tc : Thread Cert.Layer.nD Cert.Layer.τ).loc Cert.Layer.main_arg14)
      ∧ r.2.mem ((c.tc : Thread Cert.Layer.nD Cert.Layer.τ).loc Cert.Layer.main_arg15) = m ((c.tc : Thread Cert.Layer.nD Cert.Layer.τ).loc Cert.Layer.main_arg15)
      ∧ r.2.mem ((c.tc : Thread Cert.Layer.nD Cert.Layer.τ).loc Cert.Layer.main_arg16) = m ((c.tc : Thread Cert.Layer.nD Cert.Layer.τ).loc Cert.Layer.main_arg16)
      ∧ r.2.mem ((c.tc : Thread Cert.Layer.nD Cert.Layer.τ).loc Cert.Layer.main_arg17) = m ((c.tc : Thread Cert.Layer.nD Cert.Layer.τ).loc Cert.Layer.main_arg17)
      ∧ r.2.mem ((c.tc : Thread Cert.Layer.nD Cert.Layer.τ).loc Cert.Layer.main_arg18) = m ((c.tc : Thread Cert.Layer.nD Cert.Layer.τ).loc Cert.Layer.main_arg18))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
      ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
      ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
      ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
      ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
      ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
      ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17)
      ∧ r.2.mem ((c.tc : Thread Cert.LayerIdeal.nD Cert.LayerIdeal.τ).loc Cert.LayerIdeal.main_arg18) = m ((c.tc : Thread Cert.LayerIdeal.nD Cert.LayerIdeal.τ).loc Cert.LayerIdeal.main_arg18))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10)
      ∧ r.2.mem ((c.tc : Thread Cert.LayerRefIdeal.nD Cert.LayerRefIdeal.τ).loc Cert.LayerRefIdeal.main_arg11) = m ((c.tc : Thread Cert.LayerRefIdeal.nD Cert.LayerRefIdeal.τ).loc Cert.LayerRefIdeal.main_arg11)
      ∧ r.2.mem ((c.tc : Thread Cert.LayerRefIdeal.nD Cert.LayerRefIdeal.τ).loc Cert.LayerRefIdeal.main_arg12) = m ((c.tc : Thread Cert.LayerRefIdeal.nD Cert.LayerRefIdeal.τ).loc Cert.LayerRefIdeal.main_arg12)
      ∧ r.2.mem ((c.tc : Thread Cert.LayerRefIdeal.nD Cert.LayerRefIdeal.τ).loc Cert.LayerRefIdeal.main_arg13) = m ((c.tc : Thread Cert.LayerRefIdeal.nD Cert.LayerRefIdeal.τ).loc Cert.LayerRefIdeal.main_arg13)
      ∧ r.2.mem ((c.tc : Thread Cert.LayerRefIdeal.nD Cert.LayerRefIdeal.τ).loc Cert.LayerRefIdeal.main_arg14) = m ((c.tc : Thread Cert.LayerRefIdeal.nD Cert.LayerRefIdeal.τ).loc Cert.LayerRefIdeal.main_arg14)
      ∧ r.2.mem ((c.tc : Thread Cert.LayerRefIdeal.nD Cert.LayerRefIdeal.τ).loc Cert.LayerRefIdeal.main_arg15) = m ((c.tc : Thread Cert.LayerRefIdeal.nD Cert.LayerRefIdeal.τ).loc Cert.LayerRefIdeal.main_arg15)
      ∧ r.2.mem ((c.tc : Thread Cert.LayerRefIdeal.nD Cert.LayerRefIdeal.τ).loc Cert.LayerRefIdeal.main_arg16) = m ((c.tc : Thread Cert.LayerRefIdeal.nD Cert.LayerRefIdeal.τ).loc Cert.LayerRefIdeal.main_arg16)
      ∧ r.2.mem ((c.tc : Thread Cert.LayerRefIdeal.nD Cert.LayerRefIdeal.τ).loc Cert.LayerRefIdeal.main_arg17) = m ((c.tc : Thread Cert.LayerRefIdeal.nD Cert.LayerRefIdeal.τ).loc Cert.LayerRefIdeal.main_arg17)
      ∧ r.2.mem ((c.tc : Thread Cert.LayerRefIdeal.nD Cert.LayerRefIdeal.τ).loc Cert.LayerRefIdeal.main_arg18) = m ((c.tc : Thread Cert.LayerRefIdeal.nD Cert.LayerRefIdeal.τ).loc Cert.LayerRefIdeal.main_arg18))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v23) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v19) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v23) = v0 c
          ∧ r.2.mem ((c.tc : Thread Cert.NormRefIdeal.nD Cert.NormRefIdeal.τ).loc Cert.NormRefIdeal.main_v24) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v10) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_HgQ_HgQIdeal : Prop :=
  True

def algebraic_HgQIdeal_HgQRefIdeal [hHgQIdeal : Cert.HgQIdeal.Facts] [hHgQRefIdeal : Cert.HgQRefIdeal.Facts] : Prop :=
  ∀ (m : (ℓ : Loc Cert.HgQIdeal.nD Cert.HgQIdeal.τ Cert.HgQIdeal.sig) → Buf (Elt Ideal) ℓ) (g : Dev Cert.HgQIdeal.nD → PrngReg)
    (m' : (ℓ : Loc Cert.HgQRefIdeal.nD Cert.HgQRefIdeal.τ Cert.HgQRefIdeal.sig) → Buf (Elt Ideal) ℓ) (g' : Dev Cert.HgQRefIdeal.nD → PrngReg), Pre_HgQIdeal m →
    (∀ c : Dev Cert.HgQIdeal.nD,
      m' ((c.tc : Thread Cert.HgQRefIdeal.nD Cert.HgQRefIdeal.τ).loc Cert.HgQRefIdeal.main_arg0) = m ((c.tc : Thread Cert.HgQIdeal.nD Cert.HgQIdeal.τ).loc Cert.HgQIdeal.main_arg0)
      ∧ m' ((c.tc : Thread Cert.HgQRefIdeal.nD Cert.HgQRefIdeal.τ).loc Cert.HgQRefIdeal.main_arg1) = m ((c.tc : Thread Cert.HgQIdeal.nD Cert.HgQIdeal.τ).loc Cert.HgQIdeal.main_arg1)) →
    ∃ (v0 : (c : Dev Cert.HgQIdeal.nD) → Buf (Elt Ideal) ((c.tc : Thread Cert.HgQIdeal.nD Cert.HgQIdeal.τ).loc Cert.HgQIdeal.main_v2)),
      θ_run (Cert.HgQIdeal.defs (F := Ideal)) (onTc (τ := Cert.HgQIdeal.τ) (Cert.HgQIdeal.main (F := Ideal))) ⟨m, fun _ => 0, g⟩ (fun r => ∀ c : Dev Cert.HgQIdeal.nD,
          r.2.mem ((c.tc : Thread Cert.HgQIdeal.nD Cert.HgQIdeal.τ).loc Cert.HgQIdeal.main_v2) = v0 c
          ∧ r.2.mem ((c.tc : Thread Cert.HgQIdeal.nD Cert.HgQIdeal.τ).loc Cert.HgQIdeal.main_arg0) = m ((c.tc : Thread Cert.HgQIdeal.nD Cert.HgQIdeal.τ).loc Cert.HgQIdeal.main_arg0)
          ∧ r.2.mem ((c.tc : Thread Cert.HgQIdeal.nD Cert.HgQIdeal.τ).loc Cert.HgQIdeal.main_arg1) = m ((c.tc : Thread Cert.HgQIdeal.nD Cert.HgQIdeal.τ).loc Cert.HgQIdeal.main_arg1))
      ∧ θ_run (Cert.HgQRefIdeal.defs (F := Ideal)) (onTc (τ := Cert.HgQRefIdeal.τ) (Cert.HgQRefIdeal.main (F := Ideal))) ⟨m', fun _ => 0, g'⟩ (fun r => ∀ c : Dev Cert.HgQRefIdeal.nD,
          r.2.mem ((c.tc : Thread Cert.HgQRefIdeal.nD Cert.HgQRefIdeal.τ).loc Cert.HgQRefIdeal.main_v3) = v0 c
          ∧ r.2.mem ((c.tc : Thread Cert.HgQRefIdeal.nD Cert.HgQRefIdeal.τ).loc Cert.HgQRefIdeal.main_arg0) = m' ((c.tc : Thread Cert.HgQRefIdeal.nD Cert.HgQRefIdeal.τ).loc Cert.HgQRefIdeal.main_arg0)
          ∧ r.2.mem ((c.tc : Thread Cert.HgQRefIdeal.nD Cert.HgQRefIdeal.τ).loc Cert.HgQRefIdeal.main_arg1) = m' ((c.tc : Thread Cert.HgQRefIdeal.nD Cert.HgQRefIdeal.τ).loc Cert.HgQRefIdeal.main_arg1))

def preserves_HgZ_HgZIdeal : Prop :=
  True

def algebraic_HgZIdeal_HgZRefIdeal [hHgZIdeal : Cert.HgZIdeal.Facts] [hHgZRefIdeal : Cert.HgZRefIdeal.Facts] : Prop :=
  ∀ (m : (ℓ : Loc Cert.HgZIdeal.nD Cert.HgZIdeal.τ Cert.HgZIdeal.sig) → Buf (Elt Ideal) ℓ) (g : Dev Cert.HgZIdeal.nD → PrngReg)
    (m' : (ℓ : Loc Cert.HgZRefIdeal.nD Cert.HgZRefIdeal.τ Cert.HgZRefIdeal.sig) → Buf (Elt Ideal) ℓ) (g' : Dev Cert.HgZRefIdeal.nD → PrngReg), Pre_HgZIdeal m →
    (∀ c : Dev Cert.HgZIdeal.nD,
      m' ((c.tc : Thread Cert.HgZRefIdeal.nD Cert.HgZRefIdeal.τ).loc Cert.HgZRefIdeal.main_arg0) = m ((c.tc : Thread Cert.HgZIdeal.nD Cert.HgZIdeal.τ).loc Cert.HgZIdeal.main_arg0)
      ∧ m' ((c.tc : Thread Cert.HgZRefIdeal.nD Cert.HgZRefIdeal.τ).loc Cert.HgZRefIdeal.main_arg1) = m ((c.tc : Thread Cert.HgZIdeal.nD Cert.HgZIdeal.τ).loc Cert.HgZIdeal.main_arg1)) →
    ∃ (v0 : (c : Dev Cert.HgZIdeal.nD) → Buf (Elt Ideal) ((c.tc : Thread Cert.HgZIdeal.nD Cert.HgZIdeal.τ).loc Cert.HgZIdeal.main_v2)),
      θ_run (Cert.HgZIdeal.defs (F := Ideal)) (onTc (τ := Cert.HgZIdeal.τ) (Cert.HgZIdeal.main (F := Ideal))) ⟨m, fun _ => 0, g⟩ (fun r => ∀ c : Dev Cert.HgZIdeal.nD,
          r.2.mem ((c.tc : Thread Cert.HgZIdeal.nD Cert.HgZIdeal.τ).loc Cert.HgZIdeal.main_v2) = v0 c
          ∧ r.2.mem ((c.tc : Thread Cert.HgZIdeal.nD Cert.HgZIdeal.τ).loc Cert.HgZIdeal.main_arg0) = m ((c.tc : Thread Cert.HgZIdeal.nD Cert.HgZIdeal.τ).loc Cert.HgZIdeal.main_arg0)
          ∧ r.2.mem ((c.tc : Thread Cert.HgZIdeal.nD Cert.HgZIdeal.τ).loc Cert.HgZIdeal.main_arg1) = m ((c.tc : Thread Cert.HgZIdeal.nD Cert.HgZIdeal.τ).loc Cert.HgZIdeal.main_arg1))
      ∧ θ_run (Cert.HgZRefIdeal.defs (F := Ideal)) (onTc (τ := Cert.HgZRefIdeal.τ) (Cert.HgZRefIdeal.main (F := Ideal))) ⟨m', fun _ => 0, g'⟩ (fun r => ∀ c : Dev Cert.HgZRefIdeal.nD,
          r.2.mem ((c.tc : Thread Cert.HgZRefIdeal.nD Cert.HgZRefIdeal.τ).loc Cert.HgZRefIdeal.main_v1) = v0 c
          ∧ r.2.mem ((c.tc : Thread Cert.HgZRefIdeal.nD Cert.HgZRefIdeal.τ).loc Cert.HgZRefIdeal.main_arg0) = m' ((c.tc : Thread Cert.HgZRefIdeal.nD Cert.HgZRefIdeal.τ).loc Cert.HgZRefIdeal.main_arg0)
          ∧ r.2.mem ((c.tc : Thread Cert.HgZRefIdeal.nD Cert.HgZRefIdeal.τ).loc Cert.HgZRefIdeal.main_arg1) = m' ((c.tc : Thread Cert.HgZRefIdeal.nD Cert.HgZRefIdeal.τ).loc Cert.HgZRefIdeal.main_arg1))

def preserves_HgVG_HgVGIdeal : Prop :=
  True

def algebraic_HgVGIdeal_HgVGRefIdeal [hHgVGIdeal : Cert.HgVGIdeal.Facts] [hHgVGRefIdeal : Cert.HgVGRefIdeal.Facts] : Prop :=
  ∀ (m : (ℓ : Loc Cert.HgVGIdeal.nD Cert.HgVGIdeal.τ Cert.HgVGIdeal.sig) → Buf (Elt Ideal) ℓ) (g : Dev Cert.HgVGIdeal.nD → PrngReg)
    (m' : (ℓ : Loc Cert.HgVGRefIdeal.nD Cert.HgVGRefIdeal.τ Cert.HgVGRefIdeal.sig) → Buf (Elt Ideal) ℓ) (g' : Dev Cert.HgVGRefIdeal.nD → PrngReg), Pre_HgVGIdeal m →
    (∀ c : Dev Cert.HgVGIdeal.nD,
      m' ((c.tc : Thread Cert.HgVGRefIdeal.nD Cert.HgVGRefIdeal.τ).loc Cert.HgVGRefIdeal.main_arg0) = m ((c.tc : Thread Cert.HgVGIdeal.nD Cert.HgVGIdeal.τ).loc Cert.HgVGIdeal.main_arg0)
      ∧ m' ((c.tc : Thread Cert.HgVGRefIdeal.nD Cert.HgVGRefIdeal.τ).loc Cert.HgVGRefIdeal.main_arg1) = m ((c.tc : Thread Cert.HgVGIdeal.nD Cert.HgVGIdeal.τ).loc Cert.HgVGIdeal.main_arg1)) →
    ∃ (v0 : (c : Dev Cert.HgVGIdeal.nD) → Buf (Elt Ideal) ((c.tc : Thread Cert.HgVGIdeal.nD Cert.HgVGIdeal.τ).loc Cert.HgVGIdeal.main_v2)),
      θ_run (Cert.HgVGIdeal.defs (F := Ideal)) (onTc (τ := Cert.HgVGIdeal.τ) (Cert.HgVGIdeal.main (F := Ideal))) ⟨m, fun _ => 0, g⟩ (fun r => ∀ c : Dev Cert.HgVGIdeal.nD,
          r.2.mem ((c.tc : Thread Cert.HgVGIdeal.nD Cert.HgVGIdeal.τ).loc Cert.HgVGIdeal.main_v2) = v0 c
          ∧ r.2.mem ((c.tc : Thread Cert.HgVGIdeal.nD Cert.HgVGIdeal.τ).loc Cert.HgVGIdeal.main_arg0) = m ((c.tc : Thread Cert.HgVGIdeal.nD Cert.HgVGIdeal.τ).loc Cert.HgVGIdeal.main_arg0)
          ∧ r.2.mem ((c.tc : Thread Cert.HgVGIdeal.nD Cert.HgVGIdeal.τ).loc Cert.HgVGIdeal.main_arg1) = m ((c.tc : Thread Cert.HgVGIdeal.nD Cert.HgVGIdeal.τ).loc Cert.HgVGIdeal.main_arg1))
      ∧ θ_run (Cert.HgVGRefIdeal.defs (F := Ideal)) (onTc (τ := Cert.HgVGRefIdeal.τ) (Cert.HgVGRefIdeal.main (F := Ideal))) ⟨m', fun _ => 0, g'⟩ (fun r => ∀ c : Dev Cert.HgVGRefIdeal.nD,
          r.2.mem ((c.tc : Thread Cert.HgVGRefIdeal.nD Cert.HgVGRefIdeal.τ).loc Cert.HgVGRefIdeal.main_v6) = v0 c
          ∧ r.2.mem ((c.tc : Thread Cert.HgVGRefIdeal.nD Cert.HgVGRefIdeal.τ).loc Cert.HgVGRefIdeal.main_arg0) = m' ((c.tc : Thread Cert.HgVGRefIdeal.nD Cert.HgVGRefIdeal.τ).loc Cert.HgVGRefIdeal.main_arg0)
          ∧ r.2.mem ((c.tc : Thread Cert.HgVGRefIdeal.nD Cert.HgVGRefIdeal.τ).loc Cert.HgVGRefIdeal.main_arg1) = m' ((c.tc : Thread Cert.HgVGRefIdeal.nD Cert.HgVGRefIdeal.τ).loc Cert.HgVGRefIdeal.main_arg1))

def preserves_Layer_LayerIdeal : Prop :=
  True

def algebraic_LayerIdeal_LayerRefIdeal [hLayerIdeal : Cert.LayerIdeal.Facts] [hLayerRefIdeal : Cert.LayerRefIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)
      ∧ m' ((c.tc : Thread Cert.LayerRefIdeal.nD Cert.LayerRefIdeal.τ).loc Cert.LayerRefIdeal.main_arg11) = m ((c.tc : Thread Cert.LayerIdeal.nD Cert.LayerIdeal.τ).loc Cert.LayerIdeal.main_arg11)
      ∧ m' ((c.tc : Thread Cert.LayerRefIdeal.nD Cert.LayerRefIdeal.τ).loc Cert.LayerRefIdeal.main_arg12) = m ((c.tc : Thread Cert.LayerIdeal.nD Cert.LayerIdeal.τ).loc Cert.LayerIdeal.main_arg12)
      ∧ m' ((c.tc : Thread Cert.LayerRefIdeal.nD Cert.LayerRefIdeal.τ).loc Cert.LayerRefIdeal.main_arg13) = m ((c.tc : Thread Cert.LayerIdeal.nD Cert.LayerIdeal.τ).loc Cert.LayerIdeal.main_arg13)
      ∧ m' ((c.tc : Thread Cert.LayerRefIdeal.nD Cert.LayerRefIdeal.τ).loc Cert.LayerRefIdeal.main_arg14) = m ((c.tc : Thread Cert.LayerIdeal.nD Cert.LayerIdeal.τ).loc Cert.LayerIdeal.main_arg14)
      ∧ m' ((c.tc : Thread Cert.LayerRefIdeal.nD Cert.LayerRefIdeal.τ).loc Cert.LayerRefIdeal.main_arg15) = m ((c.tc : Thread Cert.LayerIdeal.nD Cert.LayerIdeal.τ).loc Cert.LayerIdeal.main_arg15)
      ∧ m' ((c.tc : Thread Cert.LayerRefIdeal.nD Cert.LayerRefIdeal.τ).loc Cert.LayerRefIdeal.main_arg16) = m ((c.tc : Thread Cert.LayerIdeal.nD Cert.LayerIdeal.τ).loc Cert.LayerIdeal.main_arg16)
      ∧ m' ((c.tc : Thread Cert.LayerRefIdeal.nD Cert.LayerRefIdeal.τ).loc Cert.LayerRefIdeal.main_arg17) = m ((c.tc : Thread Cert.LayerIdeal.nD Cert.LayerIdeal.τ).loc Cert.LayerIdeal.main_arg17)
      ∧ m' ((c.tc : Thread Cert.LayerRefIdeal.nD Cert.LayerRefIdeal.τ).loc Cert.LayerRefIdeal.main_arg18) = m ((c.tc : Thread Cert.LayerIdeal.nD Cert.LayerIdeal.τ).loc Cert.LayerIdeal.main_arg18)) →
    ∃ (v0 : (c : Dev Cert.LayerIdeal.nD) → Buf (Elt Ideal) ((c.tc : Thread Cert.LayerIdeal.nD Cert.LayerIdeal.τ).loc Cert.LayerIdeal.main_v23)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v23) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
          ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
          ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
          ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
          ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
          ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
          ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17)
          ∧ r.2.mem ((c.tc : Thread Cert.LayerIdeal.nD Cert.LayerIdeal.τ).loc Cert.LayerIdeal.main_arg18) = m ((c.tc : Thread Cert.LayerIdeal.nD Cert.LayerIdeal.τ).loc Cert.LayerIdeal.main_arg18))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v115) = v0 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10)
          ∧ r.2.mem ((c.tc : Thread Cert.LayerRefIdeal.nD Cert.LayerRefIdeal.τ).loc Cert.LayerRefIdeal.main_arg11) = m' ((c.tc : Thread Cert.LayerRefIdeal.nD Cert.LayerRefIdeal.τ).loc Cert.LayerRefIdeal.main_arg11)
          ∧ r.2.mem ((c.tc : Thread Cert.LayerRefIdeal.nD Cert.LayerRefIdeal.τ).loc Cert.LayerRefIdeal.main_arg12) = m' ((c.tc : Thread Cert.LayerRefIdeal.nD Cert.LayerRefIdeal.τ).loc Cert.LayerRefIdeal.main_arg12)
          ∧ r.2.mem ((c.tc : Thread Cert.LayerRefIdeal.nD Cert.LayerRefIdeal.τ).loc Cert.LayerRefIdeal.main_arg13) = m' ((c.tc : Thread Cert.LayerRefIdeal.nD Cert.LayerRefIdeal.τ).loc Cert.LayerRefIdeal.main_arg13)
          ∧ r.2.mem ((c.tc : Thread Cert.LayerRefIdeal.nD Cert.LayerRefIdeal.τ).loc Cert.LayerRefIdeal.main_arg14) = m' ((c.tc : Thread Cert.LayerRefIdeal.nD Cert.LayerRefIdeal.τ).loc Cert.LayerRefIdeal.main_arg14)
          ∧ r.2.mem ((c.tc : Thread Cert.LayerRefIdeal.nD Cert.LayerRefIdeal.τ).loc Cert.LayerRefIdeal.main_arg15) = m' ((c.tc : Thread Cert.LayerRefIdeal.nD Cert.LayerRefIdeal.τ).loc Cert.LayerRefIdeal.main_arg15)
          ∧ r.2.mem ((c.tc : Thread Cert.LayerRefIdeal.nD Cert.LayerRefIdeal.τ).loc Cert.LayerRefIdeal.main_arg16) = m' ((c.tc : Thread Cert.LayerRefIdeal.nD Cert.LayerRefIdeal.τ).loc Cert.LayerRefIdeal.main_arg16)
          ∧ r.2.mem ((c.tc : Thread Cert.LayerRefIdeal.nD Cert.LayerRefIdeal.τ).loc Cert.LayerRefIdeal.main_arg17) = m' ((c.tc : Thread Cert.LayerRefIdeal.nD Cert.LayerRefIdeal.τ).loc Cert.LayerRefIdeal.main_arg17)
          ∧ r.2.mem ((c.tc : Thread Cert.LayerRefIdeal.nD Cert.LayerRefIdeal.τ).loc Cert.LayerRefIdeal.main_arg18) = m' ((c.tc : Thread Cert.LayerRefIdeal.nD Cert.LayerRefIdeal.τ).loc Cert.LayerRefIdeal.main_arg18))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts) (hPle : Cert.Ple.Facts) (hPleIdeal : Cert.PleIdeal.Facts) (hPleRefIdeal : Cert.PleRefIdeal.Facts) (hHgQ : Cert.HgQ.Facts) (hHgQIdeal : Cert.HgQIdeal.Facts) (hHgQRefIdeal : Cert.HgQRefIdeal.Facts) (hHgZ : Cert.HgZ.Facts) (hHgZIdeal : Cert.HgZIdeal.Facts) (hHgZRefIdeal : Cert.HgZRefIdeal.Facts) (hHgVG : Cert.HgVG.Facts) (hHgVGIdeal : Cert.HgVGIdeal.Facts) (hHgVGRefIdeal : Cert.HgVGRefIdeal.Facts) (hLayer : Cert.Layer.Facts) (hLayerIdeal : Cert.LayerIdeal.Facts) (hLayerRefIdeal : Cert.LayerRefIdeal.Facts) (hPre_finite_qk : Cert.Pre_finite_qk.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ quiescent_Ple (hPle := hPle)
    ∧ quiescent_PleIdeal (hPleIdeal := hPleIdeal)
    ∧ quiescent_PleRefIdeal (hPleRefIdeal := hPleRefIdeal)
    ∧ quiescent_HgQ (hHgQ := hHgQ)
    ∧ quiescent_HgQIdeal (hHgQIdeal := hHgQIdeal)
    ∧ quiescent_HgQRefIdeal (hHgQRefIdeal := hHgQRefIdeal)
    ∧ quiescent_HgZ (hHgZ := hHgZ)
    ∧ quiescent_HgZIdeal (hHgZIdeal := hHgZIdeal)
    ∧ quiescent_HgZRefIdeal (hHgZRefIdeal := hHgZRefIdeal)
    ∧ quiescent_HgVG (hHgVG := hHgVG)
    ∧ quiescent_HgVGIdeal (hHgVGIdeal := hHgVGIdeal)
    ∧ quiescent_HgVGRefIdeal (hHgVGRefIdeal := hHgVGRefIdeal)
    ∧ quiescent_Layer (hLayer := hLayer)
    ∧ quiescent_LayerIdeal (hLayerIdeal := hLayerIdeal)
    ∧ quiescent_LayerRefIdeal (hLayerRefIdeal := hLayerRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
    ∧ preserves_Ple_PleIdeal
    ∧ algebraic_PleIdeal_PleRefIdeal (hPleIdeal := hPleIdeal) (hPleRefIdeal := hPleRefIdeal)
    ∧ preserves_HgQ_HgQIdeal
    ∧ algebraic_HgQIdeal_HgQRefIdeal (hHgQIdeal := hHgQIdeal) (hHgQRefIdeal := hHgQRefIdeal)
    ∧ preserves_HgZ_HgZIdeal
    ∧ algebraic_HgZIdeal_HgZRefIdeal (hHgZIdeal := hHgZIdeal) (hHgZRefIdeal := hHgZRefIdeal)
    ∧ preserves_HgVG_HgVGIdeal
    ∧ algebraic_HgVGIdeal_HgVGRefIdeal (hHgVGIdeal := hHgVGIdeal) (hHgVGRefIdeal := hHgVGRefIdeal)
    ∧ preserves_Layer_LayerIdeal
    ∧ algebraic_LayerIdeal_LayerRefIdeal (hLayerIdeal := hLayerIdeal) (hLayerRefIdeal := hLayerRefIdeal)
-- ==== Pre_finite_qk.lean ====
abbrev S16384x3072 : Shape := ⟨2, ![16384, 3072]⟩
abbrev S16384x2560 : Shape := ⟨2, ![16384, 2560]⟩
abbrev S_ : Shape := ⟨0, ![]⟩

class Facts : Prop where
  slices_S16384x3072_S16384x2560_0_0 : S16384x3072.Slices ![0, 0] S16384x2560
  bitsLt_bf16_f32 : FTy.bits .bf16 < FTy.bits .f32
  bcast_S_S16384x2560 : S_.BroadcastsInDim S16384x2560 (![] : Fin 0 → Fin S16384x2560.rank)

variable [Facts]

def fn {F : FTy → Type} [FloatOps F] (main_arg0 : FVec F S16384x3072 .bf16) : IVec S16384x2560 1 :=
  let main_v0 : FVec F S16384x2560 .bf16 := (extractStridedSlice S16384x2560 ![0, 0] · slices_S16384x3072_S16384x2560_0_0) main_arg0
  let main_v1 : FVec F S16384x2560 .f32 := (extf .f32 · bitsLt_bf16_f32) main_v0
  let main_v2 : FVec F S16384x2560 .f32 := Host.absf main_v1
  let main_cst : FVec F S_ .f32 := constant S_ .f32 0x7F800000#32
  let main_v3 : FVec F S16384x2560 .f32 := broadcastInDim S16384x2560 ![] bcast_S_S16384x2560 main_cst
  let main_v4 : IVec S16384x2560 1 := cmpf .olt main_v2 main_v3
  main_v4
-- ==== Attn.lean ====
abbrev S16384x3072 : Shape := ⟨2, ![16384, 3072]⟩
abbrev S16384x512 : Shape := ⟨2, ![16384, 512]⟩
abbrev S2x8192x512 : Shape := ⟨3, ![2, 8192, 512]⟩
abbrev S2x512x8192 : Shape := ⟨3, ![2, 512, 8192]⟩
abbrev S1024x8192 : Shape := ⟨2, ![1024, 8192]⟩
abbrev S16384x2048 : Shape := ⟨2, ![16384, 2048]⟩
abbrev S512x512 : Shape := ⟨2, ![512, 512]⟩
abbrev S1024x128 : Shape := ⟨2, ![1024, 128]⟩
abbrev S128x1024 : Shape := ⟨2, ![128, 1024]⟩
abbrev S8x512 : Shape := ⟨2, ![8, 512]⟩
abbrev S4x128x512 : Shape := ⟨3, ![4, 128, 512]⟩
abbrev S512x128 : Shape := ⟨2, ![512, 128]⟩
abbrev S1024x512 : Shape := ⟨2, ![1024, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S2x8192x512, .bf16⟩
  | .hbm, ⟨3, _⟩ => ⟨S2x512x8192, .bf16⟩
  | .hbm, ⟨4, _⟩ => ⟨S1024x8192, .bf16⟩
  | .hbm, ⟨5, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S512x512, .bf16⟩
  | .local _ .vmem, ⟨7, _⟩ => ⟨S512x512, .bf16⟩
  | .local _ .vmem, ⟨8, _⟩ => ⟨S8x512, .f32⟩
  | .local _ .vmem, ⟨9, _⟩ => ⟨S8x512, .f32⟩
  | .local _ .vmem, ⟨10, _⟩ => ⟨S4x128x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 16, 8], ![false, false, false, false]⟩

def k0_cond2 (i : grid0.Coords) : BitVec 1 :=
  let arg3 : BitVec 32 := BitVec.ofNat 32 (i 3).val
  let c7_i32 : BitVec 32 := 7#32
  let v134 : BitVec 1 := Scalar.cmpi .eq arg3 c7_i32
  let v135 : BitVec 32 := Scalar.extui v134
  let c0_i32_77 : BitVec 32 := 0#32
  let v136 : BitVec 1 := Scalar.cmpi .ne v135 c0_i32_77
  v136

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![v1.toNat, arg3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== AttnRefIdeal.lean ====
abbrev S16384x3072 : Shape := ⟨2, ![16384, 3072]⟩
abbrev S16384x2048 : Shape := ⟨2, ![16384, 2048]⟩
abbrev S2x8192x4x4x128 : Shape := ⟨5, ![2, 8192, 4, 4, 128]⟩
abbrev S16384x512 : Shape := ⟨2, ![16384, 512]⟩
abbrev S2x8192x4x128 : Shape := ⟨4, ![2, 8192, 4, 128]⟩
abbrev S2x4x8192x8192x4 : Shape := ⟨5, ![2, 4, 8192, 8192, 4]⟩
abbrev S2x4x4x8192x8192 : Shape := ⟨5, ![2, 4, 4, 8192, 8192]⟩
abbrev S_ : Shape := ⟨0, ![]⟩
abbrev S2x4x4x8192 : Shape := ⟨4, ![2, 4, 4, 8192]⟩
abbrev S2x4x4x8192x1 : Shape := ⟨5, ![2, 4, 4, 8192, 1]⟩
abbrev S2x4x128x4x8192 : Shape := ⟨5, ![2, 4, 128, 4, 8192]⟩

abbrev nBuf : Space → Nat
  | .hbm => 28
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .f32⟩
  | .hbm, ⟨2, _⟩ => ⟨S16384x2048, .f32⟩
  | .hbm, ⟨3, _⟩ => ⟨S2x8192x4x4x128, .f32⟩
  | .hbm, ⟨4, _⟩ => ⟨S16384x512, .f32⟩
  | .hbm, ⟨5, _⟩ => ⟨S2x8192x4x128, .f32⟩
  | .hbm, ⟨6, _⟩ => ⟨S16384x512, .f32⟩
  | .hbm, ⟨7, _⟩ => ⟨S2x8192x4x128, .f32⟩
  | .hbm, ⟨8, _⟩ => ⟨S2x4x8192x8192x4, .f32⟩
  | .hbm, ⟨9, _⟩ => ⟨S2x4x4x8192x8192, .f32⟩
  | .hbm, ⟨10, _⟩ => ⟨S_, .f32⟩
  | .hbm, ⟨11, _⟩ => ⟨S2x4x4x8192, .f32⟩
  | .hbm, ⟨12, _⟩ => ⟨S_, .f32⟩
  | .hbm, ⟨13, _⟩ => ⟨S2x4x4x8192, .f32⟩
  | .hbm, ⟨14, _⟩ => ⟨S2x4x4x8192, .f32⟩
  | .hbm, ⟨15, _⟩ => ⟨S2x4x4x8192x1, .f32⟩
  | .hbm, ⟨16, _⟩ => ⟨S2x4x4x8192x8192, .f32⟩
  | .hbm, ⟨17, _⟩ => ⟨S2x4x4x8192x8192, .f32⟩
  | .hbm, ⟨18, _⟩ => ⟨S2x4x4x8192x8192, .f32⟩
  | .hbm, ⟨19, _⟩ => ⟨S_, .f32⟩
  | .hbm, ⟨20, _⟩ => ⟨S2x4x4x8192, .f32⟩
  | .hbm, ⟨21, _⟩ => ⟨S2x4x4x8192x1, .f32⟩
  | .hbm, ⟨22, _⟩ => ⟨S2x4x4x8192x8192, .f32⟩
  | .hbm, ⟨23, _⟩ => ⟨S2x4x4x8192x8192, .f32⟩
  | .hbm, ⟨24, _⟩ => ⟨S2x4x128x4x8192, .f32⟩
  | .hbm, ⟨25, _⟩ => ⟨S2x8192x4x4x128, .f32⟩
  | .hbm, ⟨26, _⟩ => ⟨S16384x2048, .f32⟩
  | .hbm, ⟨27, _⟩ => ⟨S16384x2048, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Up.lean ====
abbrev S16384x4096 : Shape := ⟨2, ![16384, 4096]⟩
abbrev S4096x22016 : Shape := ⟨2, ![4096, 22016]⟩
abbrev S16384x11008 : Shape := ⟨2, ![16384, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S4096x22016, .bf16⟩
  | .hbm, ⟨3, _⟩ => ⟨S16384x11008, .bf16⟩
  | .hbm, ⟨4, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S16384x4096 : Shape := ⟨2, ![16384, 4096]⟩
abbrev S4096x22016 : Shape := ⟨2, ![4096, 22016]⟩
abbrev S16384x22016 : Shape := ⟨2, ![16384, 22016]⟩
abbrev S16384x11008 : Shape := ⟨2, ![16384, 11008]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S16384x4096, .f32⟩
  | .hbm, ⟨3, _⟩ => ⟨S16384x22016, .f32⟩
  | .hbm, ⟨4, _⟩ => ⟨S16384x11008, .f32⟩
  | .hbm, ⟨5, _⟩ => ⟨S16384x11008, .f32⟩
  | .hbm, ⟨6, _⟩ => ⟨S16384x11008, .bf16⟩
  | .hbm, ⟨7, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16384x11008 : Shape := ⟨2, ![16384, 11008]⟩
abbrev S11008x4096 : Shape := ⟨2, ![11008, 4096]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x11008, .f32⟩
  | .hbm, ⟨7, _⟩ => ⟨S16384x4096, .f32⟩
  | .hbm, ⟨8, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x4096 : Shape := ⟨2, ![16384, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mix.lean ====
abbrev S16384x4096 : Shape := ⟨2, ![16384, 4096]⟩
abbrev S16384x2048 : Shape := ⟨2, ![16384, 2048]⟩
abbrev S4096x8192 : Shape := ⟨2, ![4096, 8192]⟩
abbrev S8192 : Shape := ⟨1, ![8192]⟩
abbrev S2048x4096 : Shape := ⟨2, ![2048, 4096]⟩
abbrev S1x8192 : Shape := ⟨2, ![1, 8192]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S1x512 : Shape := ⟨2, ![1, 512]⟩
abbrev S512x512 : Shape := ⟨2, ![512, 512]⟩

abbrev nBuf : Space → Nat
  | .hbm => 13
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S16384x2048, .bf16⟩
  | .hbm, ⟨2, _⟩ => ⟨S16384x2048, .bf16⟩
  | .hbm, ⟨3, _⟩ => ⟨S4096x8192, .f32⟩
  | .hbm, ⟨4, _⟩ => ⟨S8192, .f32⟩
  | .hbm, ⟨5, _⟩ => ⟨S2048x4096, .f32⟩
  | .hbm, ⟨6, _⟩ => ⟨S2048x4096, .f32⟩
  | .hbm, ⟨7, _⟩ => ⟨S16384x4096, .bf16⟩
  | .hbm, ⟨8, _⟩ => ⟨S4096x8192, .bf16⟩
  | .hbm, ⟨9, _⟩ => ⟨S1x8192, .f32⟩
  | .hbm, ⟨10, _⟩ => ⟨S2048x4096, .bf16⟩
  | .hbm, ⟨11, _⟩ => ⟨S2048x4096, .bf16⟩
  | .hbm, ⟨12, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixRefIdeal.lean ====
abbrev S16384x4096 : Shape := ⟨2, ![16384, 4096]⟩
abbrev S16384x2048 : Shape := ⟨2, ![16384, 2048]⟩
abbrev S4096x8192 : Shape := ⟨2, ![4096, 8192]⟩
abbrev S8192 : Shape := ⟨1, ![8192]⟩
abbrev S2048x4096 : Shape := ⟨2, ![2048, 4096]⟩
abbrev S16384x8192 : Shape := ⟨2, ![16384, 8192]⟩
abbrev S1x8192 : Shape := ⟨2, ![1, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .bf16⟩
  | .hbm, ⟨2, _⟩ => ⟨S16384x2048, .bf16⟩
  | .hbm, ⟨3, _⟩ => ⟨S4096x8192, .f32⟩
  | .hbm, ⟨4, _⟩ => ⟨S8192, .f32⟩
  | .hbm, ⟨5, _⟩ => ⟨S2048x4096, .f32⟩
  | .hbm, ⟨6, _⟩ => ⟨S2048x4096, .f32⟩
  | .hbm, ⟨7, _⟩ => ⟨S16384x8192, .f32⟩
  | .hbm, ⟨8, _⟩ => ⟨S1x8192, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x4096, .f32⟩
  | .hbm, ⟨20, _⟩ => ⟨S16384x4096, .f32⟩
  | .hbm, ⟨21, _⟩ => ⟨S16384x2048, .f32⟩
  | .hbm, ⟨22, _⟩ => ⟨S16384x4096, .f32⟩
  | .hbm, ⟨23, _⟩ => ⟨S16384x4096, .f32⟩
  | .hbm, ⟨24, _⟩ => ⟨S16384x2048, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .hbm, ⟨6, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Ple.lean ====
abbrev S16384x4096 : Shape := ⟨2, ![16384, 4096]⟩
abbrev S16384x256 : Shape := ⟨2, ![16384, 256]⟩
abbrev S4096x4096 : Shape := ⟨2, ![4096, 4096]⟩
abbrev S256x4096 : Shape := ⟨2, ![256, 4096]⟩
abbrev S1024x4096 : Shape := ⟨2, ![1024, 4096]⟩
abbrev S1024x256 : Shape := ⟨2, ![1024, 256]⟩
abbrev S4096x512 : Shape := ⟨2, ![4096, 512]⟩
abbrev S256x512 : Shape := ⟨2, ![256, 512]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x256, .f32⟩
  | .hbm, ⟨3, _⟩ => ⟨S4096x4096, .f32⟩
  | .hbm, ⟨4, _⟩ => ⟨S256x4096, .f32⟩
  | .hbm, ⟨5, _⟩ => ⟨S16384x256, .bf16⟩
  | .hbm, ⟨6, _⟩ => ⟨S4096x4096, .bf16⟩
  | .hbm, ⟨7, _⟩ => ⟨S256x4096, .bf16⟩
  | .hbm, ⟨8, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x256, .bf16⟩
  | .local _ .vmem, ⟨3, _⟩ => ⟨S1024x256, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S16384x4096 : Shape := ⟨2, ![16384, 4096]⟩
abbrev S16384x256 : Shape := ⟨2, ![16384, 256]⟩
abbrev S4096x4096 : Shape := ⟨2, ![4096, 4096]⟩
abbrev S256x4096 : Shape := ⟨2, ![256, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x256, .f32⟩
  | .hbm, ⟨3, _⟩ => ⟨S4096x4096, .f32⟩
  | .hbm, ⟨4, _⟩ => ⟨S256x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== HgQ.lean ====
abbrev S16384x4096 : Shape := ⟨2, ![16384, 4096]⟩
abbrev S4096x13312 : Shape := ⟨2, ![4096, 13312]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x13312, .f32⟩
  | .hbm, ⟨2, _⟩ => ⟨S16384x4096, .bf16⟩
  | .hbm, ⟨3, _⟩ => ⟨S4096x13312, .bf16⟩
  | .hbm, ⟨4, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v5 : BitVec 1 := Scalar.cmpi .sge arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .slt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgQRefIdeal.lean ====
abbrev S16384x4096 : Shape := ⟨2, ![16384, 4096]⟩
abbrev S4096x13312 : Shape := ⟨2, ![4096, 13312]⟩
abbrev S4096x2048 : Shape := ⟨2, ![4096, 2048]⟩
abbrev S16384x2048 : Shape := ⟨2, ![16384, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x13312, .f32⟩
  | .hbm, ⟨2, _⟩ => ⟨S4096x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== HgZ.lean ====
abbrev S16384x4096 : Shape := ⟨2, ![16384, 4096]⟩
abbrev S4096x13312 : Shape := ⟨2, ![4096, 13312]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x13312, .f32⟩
  | .hbm, ⟨2, _⟩ => ⟨S16384x4096, .bf16⟩
  | .hbm, ⟨3, _⟩ => ⟨S4096x13312, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c8_i32 : BitVec 32 := 8#32
  let v5 : BitVec 1 := Scalar.cmpi .sge arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_3 : BitVec 32 := 8#32
  let v8 : BitVec 1 := Scalar.cmpi .slt arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgZRefIdeal.lean ====
abbrev S16384x4096 : Shape := ⟨2, ![16384, 4096]⟩
abbrev S4096x13312 : Shape := ⟨2, ![4096, 13312]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x13312, .f32⟩
  | .hbm, ⟨2, _⟩ => ⟨S4096x4096, .f32⟩
  | .hbm, ⟨3, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HgVG.lean ====
abbrev S16384x4096 : Shape := ⟨2, ![16384, 4096]⟩
abbrev S4096x13312 : Shape := ⟨2, ![4096, 13312]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x13312, .f32⟩
  | .hbm, ⟨2, _⟩ => ⟨S16384x4096, .bf16⟩
  | .hbm, ⟨3, _⟩ => ⟨S4096x13312, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c4_i32 : BitVec 32 := 4#32
  let v5 : BitVec 1 := Scalar.cmpi .sge arg1 c4_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c4_i32_3 : BitVec 32 := 4#32
  let v8 : BitVec 1 := Scalar.cmpi .slt arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgVGRefIdeal.lean ====
abbrev S16384x4096 : Shape := ⟨2, ![16384, 4096]⟩
abbrev S4096x13312 : Shape := ⟨2, ![4096, 13312]⟩
abbrev S4096x4096 : Shape := ⟨2, ![4096, 4096]⟩
abbrev S16384x2048 : Shape := ⟨2, ![16384, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x13312, .f32⟩
  | .hbm, ⟨2, _⟩ => ⟨S4096x4096, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x4096, .f32⟩
  | .hbm, ⟨16, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Layer.lean ====
abbrev S16384x4096 : Shape := ⟨2, ![16384, 4096]⟩
abbrev S16384x2048 : Shape := ⟨2, ![16384, 2048]⟩
abbrev S16384x256 : Shape := ⟨2, ![16384, 256]⟩
abbrev S2048x4096 : Shape := ⟨2, ![2048, 4096]⟩
abbrev S4096x8192 : Shape := ⟨2, ![4096, 8192]⟩
abbrev S8192 : Shape := ⟨1, ![8192]⟩
abbrev S4096x4096 : Shape := ⟨2, ![4096, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S11008x4096 : Shape := ⟨2, ![11008, 4096]⟩
abbrev S256x4096 : Shape := ⟨2, ![256, 4096]⟩
abbrev S1x8192 : Shape := ⟨2, ![1, 8192]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S1x512 : Shape := ⟨2, ![1, 512]⟩
abbrev S512x512 : Shape := ⟨2, ![512, 512]⟩
abbrev S1024x4096 : Shape := ⟨2, ![1024, 4096]⟩
abbrev S1024x512 : Shape := ⟨2, ![1024, 512]⟩
abbrev S1x4096 : Shape := ⟨2, ![1, 4096]⟩
abbrev S256 : Shape := ⟨1, ![256]⟩
abbrev S256x1 : Shape := ⟨2, ![256, 1]⟩
abbrev S16384x11008 : Shape := ⟨2, ![16384, 11008]⟩
abbrev S4096x256 : Shape := ⟨2, ![4096, 256]⟩
abbrev S1024x256 : Shape := ⟨2, ![1024, 256]⟩
abbrev S1x11008 : Shape := ⟨2, ![1, 11008]⟩
abbrev S128x5504 : Shape := ⟨2, ![128, 5504]⟩
abbrev S16x5504 : Shape := ⟨2, ![16, 5504]⟩
abbrev S3x5504 : Shape := ⟨2, ![3, 5504]⟩
abbrev S1x5504 : Shape := ⟨2, ![1, 5504]⟩
abbrev S512x11008 : Shape := ⟨2, ![512, 11008]⟩
abbrev S11008x512 : Shape := ⟨2, ![11008, 512]⟩
abbrev S256x512 : Shape := ⟨2, ![256, 512]⟩

abbrev nBuf : Space → Nat
  | .hbm => 46
  | .vmem => 88
  | .smem => 0
  | _ => 0

abbrev bufTy : (tb : Table) → Fin (tcTables nBuf tb) → BufTy
  | .hbm, ⟨0, _⟩ => ⟨S16384x4096, .f32⟩
  | .hbm, ⟨1, _⟩ => ⟨S16384x2048, .bf16⟩
  | .hbm, ⟨2, _⟩ => ⟨S16384x2048, .bf16⟩
  | .hbm, ⟨3, _⟩ => ⟨S16384x256, .f32⟩
  | .hbm, ⟨4, _⟩ => ⟨S2048x4096, .f32⟩
  | .hbm, ⟨5, _⟩ => ⟨S2048x4096, .f32⟩
  | .hbm, ⟨6, _⟩ => ⟨S4096x8192, .f32⟩
  | .hbm, ⟨7, _⟩ => ⟨S8192, .f32⟩
  | .hbm, ⟨8, _⟩ => ⟨S4096x4096, .f32⟩
  | .hbm, ⟨9, _⟩ => ⟨S4096, .f32⟩
  | .hbm, ⟨10, _⟩ => ⟨S4096, .f32⟩
  | .hbm, ⟨11, _⟩ => ⟨S4096x22016, .f32⟩
  | .hbm, ⟨12, _⟩ => ⟨S3x11008, .f32⟩
  | .hbm, ⟨13, _⟩ => ⟨S11008, .f32⟩
  | .hbm, ⟨14, _⟩ => ⟨S11008x4096, .f32⟩
  | .hbm, ⟨15, _⟩ => ⟨S4096, .f32⟩
  | .hbm, ⟨16, _⟩ => ⟨S4096, .f32⟩
  | .hbm, ⟨17, _⟩ => ⟨S4096x4096, .f32⟩
  | .hbm, ⟨18, _⟩ => ⟨S256x4096, .f32⟩
  | .hbm, ⟨19, _⟩ => ⟨S16384x4096, .bf16⟩
  | .hbm, ⟨20, _⟩ => ⟨S4096x8192, .bf16⟩
  | .hbm, ⟨21, _⟩ => ⟨S1x8192, .f32⟩
  | .hbm, ⟨22, _⟩ => ⟨S2048x4096, .bf16⟩
  | .hbm, ⟨23, _⟩ => ⟨S2048x4096, .bf16⟩
  | .hbm, ⟨24, _⟩ => ⟨S16384x4096, .bf16⟩
  | .hbm, ⟨25, _⟩ => ⟨S4096x4096, .bf16⟩
  | .hbm, ⟨26, _⟩ => ⟨S16384x4096, .f32⟩
  | .hbm, ⟨27, _⟩ => ⟨S1x4096, .f32⟩
  | .hbm, ⟨28, _⟩ => ⟨S1x4096, .f32⟩
  | .hbm, ⟨29, _⟩ => ⟨S16384x4096, .f32⟩
  | .hbm, ⟨30, _⟩ => ⟨S16384x4096, .bf16⟩
  | .hbm, ⟨31, _⟩ => ⟨S4096x22016, .bf16⟩
  | .hbm, ⟨32, _⟩ => ⟨S16384x11008, .bf16⟩
  | .hbm, ⟨33, _⟩ => ⟨S16384x11008, .bf16⟩
  | .hbm, ⟨34, _⟩ => ⟨S1x11008, .f32⟩
  | .hbm, ⟨35, _⟩ => ⟨S16384x11008, .bf16⟩
  | .hbm, ⟨36, _⟩ => ⟨S11008x4096, .bf16⟩
  | .hbm, ⟨37, _⟩ => ⟨S16384x4096, .f32⟩
  | .hbm, ⟨38, _⟩ => ⟨S1x4096, .f32⟩
  | .hbm, ⟨39, _⟩ => ⟨S1x4096, .f32⟩
  | .hbm, ⟨40, _⟩ => ⟨S16384x4096, .f32⟩
  | .hbm, ⟨41, _⟩ => ⟨S16384x4096, .bf16⟩
  | .hbm, ⟨42, _⟩ => ⟨S16384x256, .bf16⟩
  | .hbm, ⟨43, _⟩ => ⟨S4096x4096, .bf16⟩
  | .hbm, ⟨44, _⟩ => ⟨S256x4096, .bf16⟩
  | .hbm, ⟨45, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S1024x4096, .bf16⟩
  | .local _ .vmem, ⟨21, _⟩ => ⟨S1024x4096, .bf16⟩
  | .local _ .vmem, ⟨22, _⟩ => ⟨S4096x512, .bf16⟩
  | .local _ .vmem, ⟨23, _⟩ => ⟨S4096x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S256x4096, .f32⟩
  | .local _ .vmem, ⟨29, _⟩ => ⟨S256x4096, .f32⟩
  | .local _ .vmem, ⟨30, _⟩ => ⟨S1x4096, .f32⟩
  | .local _ .vmem, ⟨31, _⟩ => ⟨S1x4096, .f32⟩
  | .local _ .vmem, ⟨32, _⟩ => ⟨S256x4096, .f32⟩
  | .local _ .vmem, ⟨33, _⟩ => ⟨S256x4096, .f32⟩
  | .local _ .vmem, ⟨34, _⟩ => ⟨S256x4096, .bf16⟩
  | .local _ .vmem, ⟨35, _⟩ => ⟨S256x4096, .bf16⟩
  | .local _ .vmem, ⟨36, _⟩ => ⟨S1024x4096, .bf16⟩
  | .local _ .vmem, ⟨37, _⟩ => ⟨S1024x4096, .bf16⟩
  | .local _ .vmem, ⟨38, _⟩ => ⟨S4096x256, .bf16⟩
  | .local _ .vmem, ⟨39, _⟩ => ⟨S4096x256, .bf16⟩
  | .local _ .vmem, ⟨40, _⟩ => ⟨S4096x256, .bf16⟩
  | .local _ .vmem, ⟨41, _⟩ => ⟨S4096x256, .bf16⟩
  | .local _ .vmem, ⟨42, _⟩ => ⟨S1024x256, .bf16⟩
  | .local _ .vmem, ⟨43, _⟩ => ⟨S1024x256, .bf16⟩
  | .local _ .vmem, ⟨44, _⟩ => ⟨S1024x256, .bf16⟩
  | .local _ .vmem, ⟨45, _⟩ => ⟨S1024x256, .bf16⟩
  | .local _ .vmem, ⟨46, _⟩ => ⟨S128x5504, .bf16⟩
  | .local _ .vmem, ⟨47, _⟩ => ⟨S128x5504, .bf16⟩
  | .local _ .vmem, ⟨48, _⟩ => ⟨S16x5504, .bf16⟩
  | .local _ .vmem, ⟨49, _⟩ => ⟨S16x5504, .bf16⟩
  | .local _ .vmem, ⟨50, _⟩ => ⟨S16x5504, .bf16⟩
  | .local _ .vmem, ⟨51, _⟩ => ⟨S16x5504, .bf16⟩
  | .local _ .vmem, ⟨52, _⟩ => ⟨S128x5504, .bf16⟩
  | .local _ .vmem, ⟨53, _⟩ => ⟨S128x5504, .bf16⟩
  | .local _ .vmem, ⟨54, _⟩ => ⟨S3x5504, .f32⟩
  | .local _ .vmem, ⟨55, _⟩ => ⟨S3x5504, .f32⟩
  | .local _ .vmem, ⟨56, _⟩ => ⟨S1x5504, .f32⟩
  | .local _ .vmem, ⟨57, _⟩ => ⟨S1x5504, .f32⟩
  | .local _ .vmem, ⟨58, _⟩ => ⟨S128x5504, .bf16⟩
  | .local _ .vmem, ⟨59, _⟩ => ⟨S128x5504, .bf16⟩
  | .local _ .vmem, ⟨60, _⟩ => ⟨S512x11008, .bf16⟩
  | .local _ .vmem, ⟨61, _⟩ => ⟨S512x11008, .bf16⟩
  | .local _ .vmem, ⟨62, _⟩ => ⟨S11008x512, .bf16⟩
  | .local _ .vmem, ⟨63, _⟩ => ⟨S11008x512, .bf16⟩
  | .local _ .vmem, ⟨64, _⟩ => ⟨S512x512, .f32⟩
  | .local _ .vmem, ⟨65, _⟩ => ⟨S512x512, .f32⟩
  | .local _ .vmem, ⟨66, _⟩ => ⟨S512x512, .f32⟩
  | .local _ .vmem, ⟨67, _⟩ => ⟨S512x512, .f32⟩
  | .local _ .vmem, ⟨68, _⟩ => ⟨S256x4096, .f32⟩
  | .local _ .vmem, ⟨69, _⟩ => ⟨S256x4096, .f32⟩
  | .local _ .vmem, ⟨70, _⟩ => ⟨S1x4096, .f32⟩
  | .local _ .vmem, ⟨71, _⟩ => ⟨S1x4096, .f32⟩
  | .local _ .vmem, ⟨72, _⟩ => ⟨S256x4096, .f32⟩
  | .local _ .vmem, ⟨73, _⟩ => ⟨S256x4096, .f32⟩
  | .local _ .vmem, ⟨74, _⟩ => ⟨S256x4096, .bf16⟩
  | .local _ .vmem, ⟨75, _⟩ => ⟨S256x4096, .bf16⟩
  | .local _ .vmem, ⟨76, _⟩ => ⟨S1024x4096, .bf16⟩
  | .local _ .vmem, ⟨77, _⟩ => ⟨S1024x4096, .bf16⟩
  | .local _ .vmem, ⟨78, _⟩ => ⟨S1024x256, .bf16⟩
  | .local _ .vmem, ⟨79, _⟩ => ⟨S1024x256, .bf16⟩
  | .local _ .vmem, ⟨80, _⟩ => ⟨S4096x512, .bf16⟩
  | .local _ .vmem, ⟨81, _⟩ => ⟨S4096x512, .bf16⟩
  | .local _ .vmem, ⟨82, _⟩ => ⟨S256x512, .bf16⟩
  | .local _ .vmem, ⟨83, _⟩ => ⟨S256x512, .bf16⟩
  | .local _ .vmem, ⟨84, _⟩ => ⟨S1024x512, .f32⟩
  | .local _ .vmem, ⟨85, _⟩ => ⟨S1024x512, .f32⟩
  | .local _ .vmem, ⟨86, _⟩ => ⟨S1024x512, .f32⟩
  | .local _ .vmem, ⟨87, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc5_stg3_0 : Ref sig .tc := ⟨.vmem, 66, rfl⟩
abbrev cc5_stg3_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg4_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg2_1 : Ref sig .tc := ⟨.vmem, 81, rfl⟩
abbrev cc7_stg3_0 : Ref sig .tc := ⟨.vmem, 82, rfl⟩
abbrev cc7_stg3_1 : Ref sig .tc := ⟨.vmem, 83, rfl⟩
abbrev cc7_stg4_0 : Ref sig .tc := ⟨.vmem, 84, rfl⟩
abbrev cc7_stg4_1 : Ref sig .tc := ⟨.vmem, 85, rfl⟩
abbrev cc7_stg5_0 : Ref sig .tc := ⟨.vmem, 86, rfl⟩
abbrev cc7_stg5_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33
abbrev cc2_sem4_0 : DmaSem sig := 34
abbrev cc2_sem4_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc4_sem6_0 : DmaSem sig := 58
abbrev cc4_sem6_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem2_1 : DmaSem sig := 65
abbrev cc5_sem3_0 : DmaSem sig := 66
abbrev cc5_sem3_1 : DmaSem sig := 67
abbrev cc6_sem0_0 : DmaSem sig := 68
abbrev cc6_sem0_1 : DmaSem sig := 69
abbrev cc6_sem1_0 : DmaSem sig := 70
abbrev cc6_sem2_0 : DmaSem sig := 71
abbrev cc6_sem3_0 : DmaSem sig := 72
abbrev cc6_sem3_1 : DmaSem sig := 73
abbrev cc6_sem4_0 : DmaSem sig := 74
abbrev cc6_sem4_1 : DmaSem sig := 75
abbrev cc7_sem0_0 : DmaSem sig := 76
abbrev cc7_sem0_1 : DmaSem sig := 77
abbrev cc7_sem1_0 : DmaSem sig := 78
abbrev cc7_sem1_1 : DmaSem sig := 79
abbrev cc7_sem2_0 : DmaSem sig := 80
abbrev cc7_sem2_1 : DmaSem sig := 81
abbrev cc7_sem3_0 : DmaSem sig := 82
abbrev cc7_sem3_1 : DmaSem sig := 83
abbrev cc7_sem4_0 : DmaSem sig := 84
abbrev cc7_sem4_1 : DmaSem sig := 85
abbrev cc7_sem5_0 : DmaSem sig := 86
abbrev cc7_sem5_1 : DmaSem sig := 87

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![128, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc4_transform_2 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c1023_i32 : BitVec 32 := 1023#32
  let v2 : BitVec 32 := Scalar.minsi v1 c1023_i32
  let c0_i32 : BitVec 32 := 0#32
  ![v2.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S128x5504 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S16x5504 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S16x5504 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S128x5504 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S3x5504 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1x5504 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![false, true]

abbrev stage4_6 : Fin 2 → Memref sig .tc .vmem S128x5504 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![32, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x11008 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S11008x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x4096 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x4096 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x4096 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨2, ![16, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S4096x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S256x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S1024x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1024x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]
-- ==== LayerRefIdeal.lean ====
abbrev S16384x4096 : Shape := ⟨2, ![16384, 4096]⟩
abbrev S16384x2048 : Shape := ⟨2, ![16384, 2048]⟩
abbrev S16384x256 : Shape := ⟨2, ![16384, 256]⟩
abbrev S2048x4096 : Shape := ⟨2, ![2048, 4096]⟩
abbrev S4096x8192 : Shape := ⟨2, ![4096, 8192]⟩
abbrev S8192 : Shape := ⟨1, ![8192]⟩
abbrev S4096x4096 : Shape := ⟨2, ![4096, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S11008x4096 : Shape := ⟨2, ![11008, 4096]⟩
abbrev S256x4096 : Shape := ⟨2, ![256, 4096]⟩
abbrev S16384x8192 : Shape := ⟨2, ![16384, 8192]⟩
abbrev S1x8192 : Shape := ⟨2, ![1, 8192]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x22016 : Shape := ⟨2, ![16384, 22016]⟩
abbrev S16384x11008 : Shape := ⟨2, ![16384, 11008]⟩
abbrev S2x8192x11008 : Shape := ⟨3, ![2, 8192, 11008]⟩
abbrev S2x8194x11008 : Shape := ⟨3, ![2, 8194, 11008]⟩
abbrev S1x11008 : Shape := ⟨2, ![1, 11008]⟩
abbrev S1x1x11008 : Shape := ⟨3, ![1, 1, 11008]⟩

abbrev nBuf : Space → Nat
  | .hbm => 161
  | .vmem => 0
  | .smem => 0
  | _ => 0

abbrev hbmTy0_0 (i : Nat) : BufTy := match i % 128 with
  | 0 => ⟨S16384x4096, .f32⟩
  | 1 => ⟨S16384x2048, .bf16⟩
  | 2 => ⟨S16384x2048, .bf16⟩
  | 3 => ⟨S16384x256, .f32⟩
  | 4 => ⟨S2048x4096, .f32⟩
  | 5 => ⟨S2048x4096, .f32⟩
  | 6 => ⟨S4096x8192, .f32⟩
  | 7 => ⟨S8192, .f32⟩
  | 8 => ⟨S4096x4096, .f32⟩
  | 9 => ⟨S4096, .f32⟩
  | 10 => ⟨S4096, .f32⟩
  | 11 => ⟨S4096x22016, .f32⟩
  | 12 => ⟨S3x11008, .f32⟩
  | 13 => ⟨S11008, .f32⟩
  | 14 => ⟨S11008x4096, .f32⟩
  | 15 => ⟨S4096, .f32⟩
  | 16 => ⟨S4096, .f32⟩
  | 17 => ⟨S4096x4096, .f32⟩
  | 18 => ⟨S256x4096, .f32⟩
  | 19 => ⟨S16384x8192, .f32⟩
  | 20 => ⟨S1x8192, .f32⟩
  | 21 => ⟨S16384x8192, .f32⟩
  | 22 => ⟨S16384x8192, .f32⟩
  | 23 => ⟨S16384x8192, .f32⟩
  | 24 => ⟨S16384x8192, .f32⟩
  | 25 => ⟨S_, .f32⟩
  | 26 => ⟨S16384x8192, .f32⟩
  | 27 => ⟨S16384x8192, .f32⟩
  | 28 => ⟨S_, .f32⟩
  | 29 => ⟨S16384x8192, .f32⟩
  | 30 => ⟨S16384x8192, .f32⟩
  | 31 => ⟨S16384x4096, .f32⟩
  | 32 => ⟨S16384x4096, .f32⟩
  | 33 => ⟨S16384x2048, .f32⟩
  | 34 => ⟨S16384x4096, .f32⟩
  | 35 => ⟨S16384x4096, .f32⟩
  | 36 => ⟨S16384x2048, .f32⟩
  | 37 => ⟨S16384x4096, .f32⟩
  | 38 => ⟨S16384x4096, .f32⟩
  | 39 => ⟨S16384x4096, .f32⟩
  | 40 => ⟨S_, .f32⟩
  | 41 => ⟨S16384x4096, .f32⟩
  | 42 => ⟨S16384x4096, .f32⟩
  | 43 => ⟨S16384x4096, .f32⟩
  | 44 => ⟨S16384x4096, .f32⟩
  | 45 => ⟨S_, .f32⟩
  | 46 => ⟨S16384, .f32⟩
  | 47 => ⟨S16384x1, .f32⟩
  | 48 => ⟨S_, .f32⟩
  | 49 => ⟨S16384x1, .f32⟩
  | 50 => ⟨S16384x1, .f32⟩
  | 51 => ⟨S16384x4096, .f32⟩
  | 52 => ⟨S16384x4096, .f32⟩
  | 53 => ⟨S16384x4096, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S16384x4096, .f32⟩
  | 61 => ⟨S16384x4096, .f32⟩
  | 62 => ⟨S_, .f32⟩
  | 63 => ⟨S16384x1, .f32⟩
  | 64 => ⟨S16384x1, .f32⟩
  | 65 => ⟨S16384x1, .f32⟩
  | 66 => ⟨S16384x4096, .f32⟩
  | 67 => ⟨S16384x4096, .f32⟩
  | 68 => ⟨S1x4096, .f32⟩
  | 69 => ⟨S16384x4096, .f32⟩
  | 70 => ⟨S16384x4096, .f32⟩
  | 71 => ⟨S1x4096, .f32⟩
  | 72 => ⟨S16384x4096, .f32⟩
  | 73 => ⟨S16384x4096, .f32⟩
  | 74 => ⟨S16384x22016, .f32⟩
  | 75 => ⟨S16384x11008, .f32⟩
  | 76 => ⟨S16384x11008, .f32⟩
  | 77 => ⟨S2x8192x11008, .f32⟩
  | 78 => ⟨S_, .i32⟩
  | 79 => ⟨S_, .f32⟩
  | 80 => ⟨S2x8194x11008, .f32⟩
  | 81 => ⟨S2x8192x11008, .f32⟩
  | 82 => ⟨S1x11008, .f32⟩
  | 83 => ⟨S11008, .f32⟩
  | 84 => ⟨S1x1x11008, .f32⟩
  | 85 => ⟨S2x8192x11008, .f32⟩
  | 86 => ⟨S2x8192x11008, .f32⟩
  | 87 => ⟨S2x8192x11008, .f32⟩
  | 88 => ⟨S1x11008, .f32⟩
  | 89 => ⟨S11008, .f32⟩
  | 90 => ⟨S1x1x11008, .f32⟩
  | 91 => ⟨S2x8192x11008, .f32⟩
  | 92 => ⟨S2x8192x11008, .f32⟩
  | 93 => ⟨S2x8192x11008, .f32⟩
  | 94 => ⟨S2x8192x11008, .f32⟩
  | 95 => ⟨S1x11008, .f32⟩
  | 96 => ⟨S11008, .f32⟩
  | 97 => ⟨S1x1x11008, .f32⟩
  | 98 => ⟨S2x8192x11008, .f32⟩
  | 99 => ⟨S2x8192x11008, .f32⟩
  | 100 => ⟨S2x8192x11008, .f32⟩
  | 101 => ⟨S1x1x11008, .f32⟩
  | 102 => ⟨S2x8192x11008, .f32⟩
  | 103 => ⟨S2x8192x11008, .f32⟩
  | 104 => ⟨S16384x11008, .f32⟩
  | 105 => ⟨S_, .f32⟩
  | 106 => ⟨S16384x4096, .f32⟩
  | 107 => ⟨S16384x4096, .f32⟩
  | 108 => ⟨S16384x11008, .f32⟩
  | 109 => ⟨S16384x11008, .f32⟩
  | 110 => ⟨S_, .f32⟩
  | 111 => ⟨S16384x11008, .f32⟩
  | 112 => ⟨S16384x11008, .f32⟩
  | 113 => ⟨S_, .f32⟩
  | 114 => ⟨S16384x11008, .f32⟩
  | 115 => ⟨S16384x11008, .f32⟩
  | 116 => ⟨S16384x11008, .f32⟩
  | 117 => ⟨S16384x11008, .f32⟩
  | 118 => ⟨S16384x4096, .f32⟩
  | 119 => ⟨S16384x4096, .f32⟩
  | 120 => ⟨S_, .f32⟩
  | 121 => ⟨S16384, .f32⟩
  | 122 => ⟨S16384x1, .f32⟩
  | 123 => ⟨S_, .f32⟩
  | 124 => ⟨S16384x1, .f32⟩
  | 125 => ⟨S16384x1, .f32⟩
  | 126 => ⟨S16384x4096, .f32⟩
  | 127 => ⟨S16384x4096, .f32⟩
  | _ => ⟨S16384x4096, .f32⟩

abbrev hbmTy0_1 (i : Nat) : BufTy := match i % 128 with
  | 0 => ⟨S16384x4096, .f32⟩
  | 1 => ⟨S_, .f32⟩
  | 2 => ⟨S16384, .f32⟩
  | 3 => ⟨S16384x1, .f32⟩
  | 4 => ⟨S_, .f32⟩
  | 5 => ⟨S16384x1, .f32⟩
  | 6 => ⟨S16384x1, .f32⟩
  | 7 => ⟨S16384x4096, .f32⟩
  | 8 => ⟨S16384x4096, .f32⟩
  | 9 => ⟨S_, .f32⟩
  | 10 => ⟨S16384x1, .f32⟩
  | 11 => ⟨S16384x1, .f32⟩
  | 12 => ⟨S16384x1, .f32⟩
  | 13 => ⟨S16384x4096, .f32⟩
  | 14 => ⟨S16384x4096, .f32⟩
  | 15 => ⟨S1x4096, .f32⟩
  | 16 => ⟨S16384x4096, .f32⟩
  | 17 => ⟨S16384x4096, .f32⟩
  | 18 => ⟨S1x4096, .f32⟩
  | 19 => ⟨S16384x4096, .f32⟩
  | 20 => ⟨S16384x4096, .f32⟩
  | 21 => ⟨S16384x4096, .f32⟩
  | 22 => ⟨S16384x4096, .f32⟩
  | 23 => ⟨S16384x4096, .f32⟩
  | 24 => ⟨S_, .f32⟩
  | 25 => ⟨S16384x4096, .f32⟩
  | 26 => ⟨S16384x4096, .f32⟩
  | 27 => ⟨S_, .f32⟩
  | 28 => ⟨S16384x4096, .f32⟩
  | 29 => ⟨S16384x4096, .f32⟩
  | 30 => ⟨S16384x4096, .f32⟩
  | 31 => ⟨S16384x4096, .f32⟩
  | 32 => ⟨S16384x4096, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c : Ref sig .tc := ⟨.hbm, 78, rfl⟩
abbrev main_call0_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_7 : Ref sig .tc := ⟨.hbm, 105, rfl⟩
abbrev main_v76 : Ref sig .tc := ⟨.hbm, 106, rfl⟩
abbrev main_v77 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_8 : Ref sig .tc := ⟨.hbm, 120, rfl⟩
abbrev main_v82 : Ref sig .tc := ⟨.hbm, 121, rfl⟩
abbrev main_v83 : Ref sig .tc := ⟨.hbm, 122, rfl⟩
abbrev main_cst_9 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_10 : Ref sig .tc := ⟨.hbm, 129, rfl⟩
abbrev main_v89 : Ref sig .tc := ⟨.hbm, 130, rfl⟩
abbrev main_v90 : Ref sig .tc := ⟨.hbm, 131, rfl⟩
abbrev main_cst_11 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_12 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_13 : Ref sig .tc := ⟨.hbm, 152, rfl⟩
abbrev main_v109 : Ref sig .tc := ⟨.hbm, 153, rfl⟩
abbrev main_v110 : Ref sig .tc := ⟨.hbm, 154, rfl⟩
abbrev main_cst_14 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩

abbrev nD : Nat := 1
abbrev τ : Topo := Topo.v7x

variable {F : FTy → Type} [FloatOps F]
-- ==== Proof.AttnRow.lean ====
module

public import proofs.«01_k».proof.Proof.Gen.AttnIdeal.Frame
public import Idealize.ShloMosaic.Lib.Pipeline.ValueKit
public import Idealize.ShloMosaic.Lib.Pointwise
public import Idealize.ShloMosaic.Lib.Claim

@[expose] public section

set_option maxRecDepth 16384

/-!
# One head's payload values, entry by entry

The grid point of `gqa_attention` treats its four query heads one after another by the same code. Each theorem `payN_at`
gives an entry of what one head's stage computes: scores, the new running maximum, the factor by which the older sums
shrink, the exponentials, the new running sum and the new weighted sum of the values.
-/

noncomputable section

open Idealize.ShloMosaic Idealize.ShloMosaic.TcCoe Idealize.SL.Sem

namespace Cert.AttnIdeal.Call

open Cert.AttnIdeal Cert.AttnIdeal.Gen

variable (K : FVec Ideal S1024x128 .bf16) (Q : FVec Ideal S512x128 .bf16) (V : FVec Ideal S128x1024 .bf16) (mr lr : FVec Ideal S1x512 .f32)
  (ar : FVec Ideal S1x128x512 .f32)

/-- The score of a key and a query is their inner product. -/
theorem pay9_at (k : Fin 1024) (q : Fin 512) :
    k0_pay9 (F := Ideal) K Q (ix2 k q) = ∑ d : Fin 128, K (ix2 k d) * Q (ix2 q d) := by
  pointwise [k0_pay9]

/-- The new maximum is the larger of the old one and the block's largest score. -/
theorem pay10_at (q : Fin 512) :
    k0_pay10 (F := Ideal) K Q mr (ix2 0 q) = max (mr (ix2 0 q)) (Finset.univ.fold max (Ideal.ofBits .f32 0xFF800000#32) fun k : Fin 1024 => k0_pay9 (F := Ideal) K Q (ix2 k q)) := by
  pointwise [k0_pay10]

/-- The factor by which the older sums shrink. -/
theorem pay11_at (q : Fin 512) :
    k0_pay11 (F := Ideal) K Q mr (ix2 0 q) = Ideal.exp (mr (ix2 0 q) - k0_pay10 (F := Ideal) K Q mr (ix2 0 q)) := by
  pointwise [k0_pay11]

/-- The exponential of a score, shifted by the new maximum. -/
theorem pay12_at (k : Fin 1024) (q : Fin 512) :
    k0_pay12 (F := Ideal) K Q mr (ix2 k q) = Ideal.exp (k0_pay9 (F := Ideal) K Q (ix2 k q) - k0_pay10 (F := Ideal) K Q mr (ix2 0 q)) := by
  pointwise [k0_pay12]

/-- The new sum: the old one shrunk, plus the block's exponentials. -/
theorem pay13_at (q : Fin 512) :
    k0_pay13 (F := Ideal) K Q mr lr (ix2 0 q) = k0_pay11 (F := Ideal) K Q mr (ix2 0 q) * lr (ix2 0 q) + ∑ k : Fin 1024, k0_pay12 (F := Ideal) K Q mr (ix2 k q) := by
  pointwise [k0_pay13]

/-- The new weighted sum: the old one shrunk, plus the block's values times their exponentials. -/
theorem pay14_at (d : Fin 128) (q : Fin 512) :
    k0_pay14 (F := Ideal) K V Q mr ar (ix2 d q) = k0_pay11 (F := Ideal) K Q mr (ix2 0 q) * ar (ix3 0 d q) + ∑ k : Fin 1024, V (ix2 d k) * k0_pay12 (F := Ideal) K Q mr (ix2 k q) := by
  pointwise [k0_pay14, k0_pay8]

/-- The output: the weighted sum over the sum. -/
theorem pay1_at (d : Fin 128) (q : Fin 512) :
    k0_pay1 (F := Ideal) ar lr (ix2 q d) = Ideal.div (ar (ix3 0 d q)) (lr (ix2 0 q)) := by
  pointwise [k0_pay1]

/-- The weighted sums are stored as a plane of a three-dimensional array. -/
theorem pay15_at (x : FVec Ideal S128x512 .f32) (d : Fin 128) (q : Fin 512) :
    k0_pay15 (F := Ideal) x (ix3 0 d q) = x (ix2 d q) := by
  pointwise [k0_pay15]

/-- The maxima are stored as they are. -/
theorem pay16_at (q : Fin 512) :
    k0_pay16 (F := Ideal) mr (ix2 0 q) = mr (ix2 0 q) := by
  pointwise [k0_pay16]

/-- The second head's maximum is computed as the first one's. The theorems after it say the same of the other stages and heads. -/
theorem pay18_eq : k0_pay18 (F := Ideal) K Q mr = k0_pay10 (F := Ideal) K Q mr := rfl
theorem pay25_eq : k0_pay25 (F := Ideal) K Q mr = k0_pay10 (F := Ideal) K Q mr := rfl
theorem pay23_eq : k0_pay23 (F := Ideal) mr = k0_pay16 (F := Ideal) mr := rfl
theorem pay30_eq : k0_pay30 (F := Ideal) mr = k0_pay16 (F := Ideal) mr := rfl
theorem pay37_eq : k0_pay37 (F := Ideal) K Q mr = k0_pay16 (F := Ideal) (k0_pay10 (F := Ideal) K Q mr) := rfl
theorem pay21_eq : k0_pay21 (F := Ideal) K Q mr lr = k0_pay13 (F := Ideal) K Q mr lr := rfl
theorem pay28_eq : k0_pay28 (F := Ideal) K Q mr lr = k0_pay13 (F := Ideal) K Q mr lr := rfl
theorem pay35_eq : k0_pay35 (F := Ideal) K Q mr lr = k0_pay13 (F := Ideal) K Q mr lr := rfl
theorem pay22_eq : k0_pay22 (F := Ideal) K (k0_pay8 (F := Ideal) V) Q mr ar = k0_pay15 (F := Ideal) (k0_pay14 (F := Ideal) K V Q mr ar) := rfl
theorem pay29_eq : k0_pay29 (F := Ideal) K (k0_pay8 (F := Ideal) V) Q mr ar = k0_pay15 (F := Ideal) (k0_pay14 (F := Ideal) K V Q mr ar) := rfl
theorem pay36_eq : k0_pay36 (F := Ideal) K (k0_pay8 (F := Ideal) V) Q mr ar = k0_pay15 (F := Ideal) (k0_pay14 (F := Ideal) K V Q mr ar) := rfl
theorem pay2_eq : k0_pay2 (F := Ideal) ar lr = k0_pay1 (F := Ideal) ar lr := rfl
theorem pay3_eq : k0_pay3 (F := Ideal) ar lr = k0_pay1 (F := Ideal) ar lr := rfl
theorem pay4_eq : k0_pay4 (F := Ideal) ar lr = k0_pay1 (F := Ideal) ar lr := rfl

end Cert.AttnIdeal.Call

end
-- ==== Proof.AttnPieces.lean ====
module

public import proofs.«01_k».proof.Proof.AttnRow
public import Idealize.ShloMosaic.Lib.Pipeline.ValueKit
public import Idealize.ShloMosaic.Lib.Pointwise
public import Idealize.ShloMosaic.Lib.Claim

@[expose] public section

set_option maxRecDepth 16384

/-!
# What each head stores

The scores, the running maxima, the running sums and the running weighted sums after a block of keys, as plain functions of
what was there before, and the theorems that each of the twelve stores of a grid point puts exactly these values in its
rectangle.
-/

noncomputable section

open Idealize.ShloMosaic Idealize.ShloMosaic.TcCoe Idealize.SL.Sem

namespace Cert.AttnIdeal.Call

open Cert.AttnIdeal Cert.AttnIdeal.Gen

section

variable (K : FVec Ideal S1024x128 .bf16) (X : FVec Ideal S512x512 .bf16) (V : FVec Ideal S128x1024 .bf16) (M L : FVec Ideal S8x512 .f32)
  (A : FVec Ideal S4x128x512 .f32)

/-- The score of key `k` of the block for query `q` of head `g`. -/
def sc (g : ℕ) (k : Fin 1024) (q : Fin 512) : EReal :=
  ∑ d : Fin 128, K (ix2 k d) * X (ix2 q ⟨g % 4 * 128 + d.val, by omega⟩)

/-- The running maxima after the block. -/
def newM (y : S8x512.Idx) : EReal :=
  max (M y) (Finset.univ.fold max (Ideal.ofBits .f32 0xFF800000#32) fun k : Fin 1024 => sc K X (y 0).val k (y 1))

/-- The running sums of exponentials after the block. -/
def newL (y : S8x512.Idx) : EReal :=
  Ideal.exp (M y - newM K X M y) * L y + ∑ k : Fin 1024, Ideal.exp (sc K X (y 0).val k (y 1) - newM K X M y)

/-- The place of a head's query in the arrays of maxima and sums. -/
def at2 (y : S4x128x512.Idx) : S8x512.Idx := ix2 ⟨(y 0).val, lt_trans (y 0).isLt (by decide)⟩ (y 2)

/-- The running sums of exponentials times values after the block. -/
def newA (y : S4x128x512.Idx) : EReal :=
  Ideal.exp (M (at2 y) - newM K X M (at2 y)) * A y
    + ∑ k : Fin 1024, V (ix2 (y 1) k) * Ideal.exp (sc K X (y 0).val k (y 2) - newM K X M (at2 y))

variable (g o : ℕ) (hg : g < 4) (ho : o = g * 128) (inbM : ∀ a : Fin 2, (![g, 0] : Fin 2 → ℕ) a + (![1, 512] : Fin 2 → ℕ) a ≤ S8x512.size a)
  (inbA : ∀ a : Fin 3, (![g, 0, 0] : Fin 3 → ℕ) a + (![1, 128, 512] : Fin 3 → ℕ) a ≤ S4x128x512.size a)
  (inbQ : ∀ a : Fin 2, (![0, o] : Fin 2 → ℕ) a + (![512, 128] : Fin 2 → ℕ) a ≤ S512x512.size a)

/-- The columns of the query block that belong to one head. -/
abbrev rQ : Rect S512x512 := Rect.unit ![0, o] ![512, 128] inbQ

/-- The row of the maxima and of the sums that belongs to one head. -/
abbrev rM : Rect S8x512 := Rect.unit ![g, 0] ![1, 512] inbM

/-- The plane of the accumulator that belongs to one head. -/
abbrev rA : Rect S4x128x512 := Rect.unit ![g, 0, 0] ![1, 128, 512] inbA

/-- The queries of one head. -/
abbrev ldQ : FVec Ideal S512x128 .bf16 := View.ld (Val := Elt Ideal) (e' := .bf16) X (rQ o inbQ)

/-- One head's row of an array of maxima or sums. -/
abbrev ldM : FVec Ideal S1x512 .f32 := View.ld (Val := Elt Ideal) (e' := .f32) M (rM g inbM)

/-- One head's plane of the accumulator. -/
abbrev ldA : FVec Ideal S1x128x512 .f32 := View.ld (Val := Elt Ideal) (e' := .f32) A (rA g inbA)

include hg ho in
/-- The scores a head computes. -/
theorem sc_at (k : Fin 1024) (q : Fin 512) :
    k0_pay9 (F := Ideal) K (ldQ X o inbQ) (ix2 k q) = sc K X g k q := by
  rw [pay9_at]
  refine Finset.sum_congr rfl fun d _ => ?_
  refine congrArg (K (ix2 k d) * ·) (congrArg X (funext fun a => Fin.ext ?_))
  subst ho
  match a with
  | 0 => simp
  | 1 => simp; omega

/-- An index of a one-row array. -/
theorem eta_row (x : S1x512.Idx) : ∃ q : Fin 512, x = ix2 (0 : Fin 1) q :=
  ⟨x 1, (ix2_eta (n0 := 1) (n1 := 512) x).symm.trans
    (congrArg (fun z : Fin 1 => ix2 z (x 1 : Fin 512)) (Subsingleton.elim (α := Fin 1) _ _))⟩

/-- An index of a one-plane array. -/
theorem eta_plane (x : S1x128x512.Idx) : ∃ (d : Fin 128) (q : Fin 512), x = ix3 (0 : Fin 1) d q :=
  ⟨x 1, x 2, (ix3_eta (n0 := 1) (n1 := 128) (n2 := 512) x).symm.trans
    (congrArg (fun z : Fin 1 => ix3 z (x 1 : Fin 128) (x 2 : Fin 512)) (Subsingleton.elim (α := Fin 1) _ _))⟩

/-- Where a head's row lies. -/
theorem ldM_at (q : Fin 512) : ldM M g inbM (ix2 0 q) = M (ix2 ⟨g, lt_trans hg (by decide)⟩ q) := by
  refine congrArg M (funext fun a => Fin.ext ?_)
  match a with
  | 0 => simp
  | 1 => simp

/-- Where a head's plane lies. -/
theorem ldA_at (d : Fin 128) (q : Fin 512) : ldA A g inbA (ix3 0 d q) = A (ix3 ⟨g, hg⟩ d q) := by
  refine congrArg A (funext fun a => Fin.ext ?_)
  match a with
  | 0 => simp
  | 1 => simp
  | 2 => simp

include hg ho in
/-- The maxima a head computes. -/
theorem max_at (q : Fin 512) :
    k0_pay10 (F := Ideal) K (ldQ X o inbQ) (ldM M g inbM) (ix2 0 q) = newM K X M (ix2 ⟨g, lt_trans hg (by decide)⟩ q) := by
  rw [pay10_at, ldM_at _ _ hg]
  simp only [sc_at K X g o hg ho inbQ]
  rfl

include hg ho in
/-- The row of maxima a head stores is its row of `newM`. -/
theorem pieceM : k0_pay16 (F := Ideal) (k0_pay10 K (ldQ X o inbQ) (ldM M g inbM)) = ldM (newM K X M) g inbM := by
  funext x
  obtain ⟨q, rfl⟩ := eta_row x
  rw [pay16_at, max_at K X M g o hg ho, ldM_at _ _ hg]

include hg ho in
/-- The row of sums a head stores is its row of `newL`. -/
theorem pieceL : k0_pay13 (F := Ideal) K (ldQ X o inbQ) (ldM M g inbM) (ldM L g inbM) = ldM (newL K X M L) g inbM := by
  funext x
  obtain ⟨q, rfl⟩ := eta_row x
  rw [pay13_at, pay11_at, max_at K X M g o hg ho, ldM_at _ _ hg, ldM_at _ _ hg, ldM_at _ _ hg]
  simp only [pay12_at, sc_at K X g o hg ho inbQ, max_at K X M g o hg ho]
  rfl

include hg ho in
/-- The plane of the accumulator a head stores is its plane of `newA`. -/
theorem pieceA : k0_pay15 (F := Ideal) (k0_pay14 K V (ldQ X o inbQ) (ldM M g inbM) (ldA A g inbA)) = ldA (newA K X V M A) g inbA := by
  funext x
  obtain ⟨d, q, rfl⟩ := eta_plane x
  rw [pay15_at, pay14_at, pay11_at, max_at K X M g o hg ho, ldM_at _ _ hg, ldA_at _ _ hg, ldA_at _ _ hg]
  simp only [pay12_at, sc_at K X g o hg ho inbQ, max_at K X M g o hg ho]
  rfl

/-- The quotient a head stores into the result. -/
theorem pieceO (d : Fin 128) (q : Fin 512) : k0_pay1 (F := Ideal) (ldA A g inbA) (ldM L g inbM) (ix2 q d)
    = Ideal.div (A (ix3 ⟨g, hg⟩ d q)) (L (ix2 ⟨g, lt_trans hg (by decide)⟩ q)) := by
  rw [pay1_at, ldM_at _ _ hg, ldA_at _ _ hg]

end

end Cert.AttnIdeal.Call

end
-- ==== Proof.AttnState.lean ====
module

public import proofs.«01_k».proof.Proof.AttnPieces
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

/-!
# The running state after a grid point, read as a whole

The four stores of each running array are the four heads' rows of one array. The theorems here put them together: the
array of maxima, of sums and of weighted values after the point is `newM`, `newL`, `newA` of what was loaded.
-/

noncomputable section

open Idealize.ShloMosaic Idealize.ShloMosaic.TcCoe Idealize.SL.Sem

namespace Cert.AttnIdeal.Call

open Cert.AttnIdeal Cert.AttnIdeal.Gen

section

variable (K : FVec Ideal S1024x128 .bf16) (X : FVec Ideal S512x512 .bf16) (V : FVec Ideal S128x1024 .bf16) (M L : FVec Ideal S8x512 .f32)
  (A : FVec Ideal S4x128x512 .f32)

/-- The four stores of running maxima of one point, the last one first. -/
abbrev listM : List (View.Piece (Elt Ideal) S8x512 .f32) :=
  [⟨rM 3 inb_S8x512_S1x512_3_0, k0_pay37 (F := Ideal) K (ldQ X 384 inb_S512x512_S512x128_0_384) (ldM M 3 inb_S8x512_S1x512_3_0)⟩,
   ⟨rM 2 inb_S8x512_S1x512_2_0, k0_pay30 (F := Ideal) (k0_pay25 (F := Ideal) K (ldQ X 256 inb_S512x512_S512x128_0_256) (ldM M 2 inb_S8x512_S1x512_2_0))⟩,
   ⟨rM 1 inb_S8x512_S1x512_1_0, k0_pay23 (F := Ideal) (k0_pay18 (F := Ideal) K (ldQ X 128 inb_S512x512_S512x128_0_128) (ldM M 1 inb_S8x512_S1x512_1_0))⟩,
   ⟨rM 0 inb_S8x512_S1x512_0_0, k0_pay16 (F := Ideal) (k0_pay10 (F := Ideal) K (ldQ X 0 inb_S512x512_S512x128_0_0) (ldM M 0 inb_S8x512_S1x512_0_0))⟩]

/-- The four stores of running sums of one point. -/
abbrev listL : List (View.Piece (Elt Ideal) S8x512 .f32) :=
  [⟨rM 3 inb_S8x512_S1x512_3_0, k0_pay35 (F := Ideal) K (ldQ X 384 inb_S512x512_S512x128_0_384) (ldM M 3 inb_S8x512_S1x512_3_0) (ldM L 3 inb_S8x512_S1x512_3_0)⟩,
   ⟨rM 2 inb_S8x512_S1x512_2_0, k0_pay28 (F := Ideal) K (ldQ X 256 inb_S512x512_S512x128_0_256) (ldM M 2 inb_S8x512_S1x512_2_0) (ldM L 2 inb_S8x512_S1x512_2_0)⟩,
   ⟨rM 1 inb_S8x512_S1x512_1_0, k0_pay21 (F := Ideal) K (ldQ X 128 inb_S512x512_S512x128_0_128) (ldM M 1 inb_S8x512_S1x512_1_0) (ldM L 1 inb_S8x512_S1x512_1_0)⟩,
   ⟨rM 0 inb_S8x512_S1x512_0_0, k0_pay13 (F := Ideal) K (ldQ X 0 inb_S512x512_S512x128_0_0) (ldM M 0 inb_S8x512_S1x512_0_0) (ldM L 0 inb_S8x512_S1x512_0_0)⟩]

/-- The four stores of the accumulator of one point. -/
abbrev listA : List (View.Piece (Elt Ideal) S4x128x512 .f32) :=
  [⟨rA 3 inb_S4x128x512_S1x128x512_3_0_0, k0_pay36 (F := Ideal) K (k0_pay8 (F := Ideal) V) (ldQ X 384 inb_S512x512_S512x128_0_384) (ldM M 3 inb_S8x512_S1x512_3_0) (ldA A 3 inb_S4x128x512_S1x128x512_3_0_0)⟩,
   ⟨rA 2 inb_S4x128x512_S1x128x512_2_0_0, k0_pay29 (F := Ideal) K (k0_pay8 (F := Ideal) V) (ldQ X 256 inb_S512x512_S512x128_0_256) (ldM M 2 inb_S8x512_S1x512_2_0) (ldA A 2 inb_S4x128x512_S1x128x512_2_0_0)⟩,
   ⟨rA 1 inb_S4x128x512_S1x128x512_1_0_0, k0_pay22 (F := Ideal) K (k0_pay8 (F := Ideal) V) (ldQ X 128 inb_S512x512_S512x128_0_128) (ldM M 1 inb_S8x512_S1x512_1_0) (ldA A 1 inb_S4x128x512_S1x128x512_1_0_0)⟩,
   ⟨rA 0 inb_S4x128x512_S1x128x512_0_0_0, k0_pay15 (F := Ideal) (k0_pay14 (F := Ideal) K V (ldQ X 0 inb_S512x512_S512x128_0_0) (ldM M 0 inb_S8x512_S1x512_0_0) (ldA A 0 inb_S4x128x512_S1x128x512_0_0_0))⟩]

/-- Every stored row of maxima is a row of `newM`. -/
theorem listM_of : View.PiecesOf (newM K X M) (listM K X M) :=
  ⟨fun x => congrFun (pieceM K X M 3 384 (by decide) rfl _ _) x, fun x => congrFun (pieceM K X M 2 256 (by decide) rfl _ _) x,
   fun x => congrFun (pieceM K X M 1 128 (by decide) rfl _ _) x, fun x => congrFun (pieceM K X M 0 0 (by decide) rfl _ _) x, trivial⟩

/-- Every stored row of sums is a row of `newL`. -/
theorem listL_of : View.PiecesOf (newL K X M L) (listL K X M L) :=
  ⟨fun x => congrFun (pieceL K X M L 3 384 (by decide) rfl _ _) x, fun x => congrFun (pieceL K X M L 2 256 (by decide) rfl _ _) x,
   fun x => congrFun (pieceL K X M L 1 128 (by decide) rfl _ _) x, fun x => congrFun (pieceL K X M L 0 0 (by decide) rfl _ _) x, trivial⟩

/-- Every stored plane of the accumulator is a plane of `newA`. -/
theorem listA_of : View.PiecesOf (newA K X V M A) (listA K X V M A) :=
  ⟨fun x => congrFun (pieceA K X V M A 3 384 (by decide) rfl _ _ _) x, fun x => congrFun (pieceA K X V M A 2 256 (by decide) rfl _ _ _) x,
   fun x => congrFun (pieceA K X V M A 1 128 (by decide) rfl _ _ _) x, fun x => congrFun (pieceA K X V M A 0 0 (by decide) rfl _ _ _) x, trivial⟩

/-- A place of the first four rows lies in the row of its head. -/
theorem mem_rM (g : ℕ) (inb) (y : S8x512.Idx) (h : (y 0).val = g) : y ∈ (rM g inb).set := by
  refine Rect.mem_set_unit.mpr fun a => ?_
  have h1 := (y 1).isLt
  match a with
  | 0 => exact ⟨h.ge, by show (y 0).val < g + 1; omega⟩
  | 1 => exact ⟨Nat.zero_le _, by show (y 1).val < 0 + 512; simpa using h1⟩

/-- A place of the accumulator lies in the plane of its head. -/
theorem mem_rA (g : ℕ) (inb) (y : S4x128x512.Idx) (h : (y 0).val = g) : y ∈ (rA g inb).set := by
  refine Rect.mem_set_unit.mpr fun a => ?_
  have h1 := (y 1).isLt
  have h2 := (y 2).isLt
  match a with
  | 0 => exact ⟨h.ge, by show (y 0).val < g + 1; omega⟩
  | 1 => exact ⟨Nat.zero_le _, by show (y 1).val < 0 + 128; simpa using h1⟩
  | 2 => exact ⟨Nat.zero_le _, by show (y 2).val < 0 + 512; simpa using h2⟩

/-- The four rows cover the places of the first four rows. -/
theorem cover_rM {w3 w2 w1 w0} (y : S8x512.Idx) (hy : (y 0).val < 4) :
    ∃ p ∈ ([⟨rM 3 inb_S8x512_S1x512_3_0, w3⟩, ⟨rM 2 inb_S8x512_S1x512_2_0, w2⟩, ⟨rM 1 inb_S8x512_S1x512_1_0, w1⟩, ⟨rM 0 inb_S8x512_S1x512_0_0, w0⟩] :
      List (View.Piece (Elt Ideal) S8x512 .f32)), y ∈ p.1.set := by
  rcases (by omega : (y 0).val = 3 ∨ (y 0).val = 2 ∨ (y 0).val = 1 ∨ (y 0).val = 0) with h | h | h | h
  · exact ⟨_, .head _, mem_rM 3 inb_S8x512_S1x512_3_0 y h⟩
  · exact ⟨_, .tail _ (.head _), mem_rM 2 inb_S8x512_S1x512_2_0 y h⟩
  · exact ⟨_, .tail _ (.tail _ (.head _)), mem_rM 1 inb_S8x512_S1x512_1_0 y h⟩
  · exact ⟨_, .tail _ (.tail _ (.tail _ (.head _))), mem_rM 0 inb_S8x512_S1x512_0_0 y h⟩

/-- The four planes cover the accumulator. -/
theorem cover_rA {w3 w2 w1 w0} (y : S4x128x512.Idx) :
    ∃ p ∈ ([⟨rA 3 inb_S4x128x512_S1x128x512_3_0_0, w3⟩, ⟨rA 2 inb_S4x128x512_S1x128x512_2_0_0, w2⟩, ⟨rA 1 inb_S4x128x512_S1x128x512_1_0_0, w1⟩, ⟨rA 0 inb_S4x128x512_S1x128x512_0_0_0, w0⟩] :
      List (View.Piece (Elt Ideal) S4x128x512 .f32)), y ∈ p.1.set := by
  have hy : (y 0).val < 4 := (y 0).isLt
  rcases (by omega : (y 0).val = 3 ∨ (y 0).val = 2 ∨ (y 0).val = 1 ∨ (y 0).val = 0) with h | h | h | h
  · exact ⟨_, .head _, mem_rA 3 inb_S4x128x512_S1x128x512_3_0_0 y h⟩
  · exact ⟨_, .tail _ (.head _), mem_rA 2 inb_S4x128x512_S1x128x512_2_0_0 y h⟩
  · exact ⟨_, .tail _ (.tail _ (.head _)), mem_rA 1 inb_S4x128x512_S1x128x512_1_0_0 y h⟩
  · exact ⟨_, .tail _ (.tail _ (.tail _ (.head _))), mem_rA 0 inb_S4x128x512_S1x128x512_0_0_0 y h⟩

/-- The array of maxima after the four stores over any contents. -/
theorem readM {κ : Kind} {sp : Space} (v : View sig κ sp S8x512 .f32) (f) (y : S8x512.Idx) (hy : (y 0).val < 4) :
    v.read (Elt Ideal) (v.writes (Elt Ideal) f (listM K X M)) y = newM K X M y :=
  View.read_writes_apply_of_pieces _ _ _ _ (listM_of K X M).mem y (cover_rM y hy)

/-- The array of sums after the four stores over any contents. -/
theorem readL {κ : Kind} {sp : Space} (v : View sig κ sp S8x512 .f32) (f) (y : S8x512.Idx) (hy : (y 0).val < 4) :
    v.read (Elt Ideal) (v.writes (Elt Ideal) f (listL K X M L)) y = newL K X M L y :=
  View.read_writes_apply_of_pieces _ _ _ _ (listL_of K X M L).mem y (cover_rM y hy)

/-- The array of maxima after a fill and the four stores. -/
theorem canonM (L' : List (View.Piece (Elt Ideal) S8x512 .f32)) (y : S8x512.Idx) (hy : (y 0).val < 4) :
    View.canon (listM K X M ++ L') y = newM K X M y :=
  View.canon_append_of_piecesOf _ _ _ (listM_of K X M) y (cover_rM y hy)

/-- The array of sums after a fill and the four stores. -/
theorem canonL (L' : List (View.Piece (Elt Ideal) S8x512 .f32)) (y : S8x512.Idx) (hy : (y 0).val < 4) :
    View.canon (listL K X M L ++ L') y = newL K X M L y :=
  View.canon_append_of_piecesOf _ _ _ (listL_of K X M L) y (cover_rM y hy)

/-- The accumulator after the four stores, whatever was there before. -/
theorem canonA (L' : List (View.Piece (Elt Ideal) S4x128x512 .f32)) (y : S4x128x512.Idx) :
    View.canon (listA K X V M A ++ L') y = newA K X V M A y :=
  View.canon_append_of_piecesOf _ _ _ (listA_of K X V M A) y (cover_rA y)

/-- A load of rows that the stores fill is a load of the function the stores are rows of. -/
theorem readCov_of {κ : Kind} {sp : Space} {s : Shape} (v : View sig κ sp s .f32) (G : s.Idx → EReal) (P : List (View.Piece (Elt Ideal) s .f32))
    (h : View.PiecesOf G P) (r : Rect s) (hc : ∀ x, ∃ p ∈ P, r.emb x ∈ p.1.set) :
    v.readCov P r.toLoadRect = View.ld (Val := Elt Ideal) (e' := .f32) G r := by
  rw [View.readCov_eq_canon']
  funext x
  have := View.canon_append_of_piecesOf (Val := Elt Ideal) (e := .f32) G [] P h (r.emb x) (hc x)
  rw [List.append_nil] at this
  exact this

/-- A head's row of maxima or sums lies in the first four rows. -/
theorem row_lt (g : ℕ) (hg : g < 4) (inb) (x : (rM g inb).shape.Idx) : ((rM g inb).emb x 0).val < 4 := by
  have h : (x 0).val < 1 := (x 0).isLt
  have e : ((rM g inb).emb x 0).val = g + 1 * (x 0).val := Rect.emb_apply (rM g inb) x 0
  omega

/-- The load of a head's sums after the four stores. -/
theorem loadL {κ : Kind} {sp : Space} (v : View sig κ sp S8x512 .f32) (g : ℕ) (hg : g < 4) (inb) :
    v.readCov (listL K X M L) (rM g inb).toLoadRect = ldM (newL K X M L) g inb :=
  readCov_of v _ _ (listL_of K X M L) _ fun x => cover_rM _ (row_lt g hg inb x)

/-- The load of a head's accumulator after the four stores. -/
theorem loadA {κ : Kind} {sp : Space} (v : View sig κ sp S4x128x512 .f32) (g : ℕ) (inb) :
    v.readCov (listA K X V M A) (rA g inb).toLoadRect = ldA (newA K X V M A) g inb :=
  readCov_of v _ _ (listA_of K X V M A) _ fun x => cover_rA _

end

end Cert.AttnIdeal.Call

end
-- ==== Proof.AttnCases.lean ====
module

public import proofs.«01_k».proof.Proof.AttnState
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

/-!
# The three kinds of grid points

A query block meets its eight key blocks in turn: the first one starts from the empty state, the last one also divides and
writes the output block. The theorems give the state after a point of each kind, and the output of the last.
-/

noncomputable section

open Idealize.ShloMosaic Idealize.ShloMosaic.TcCoe Idealize.SL.Sem

namespace Cert.AttnIdeal.Call

open Cert.AttnIdeal Cert.AttnIdeal.Gen

variable (m : (ℓ : Loc nD τ sig) → Buf (Elt Ideal) ℓ)

/-- The first key block: maxima. -/
theorem max_A (c : Dev nD) (t : Fin cfg0.N) (h0 : t.val % 8 = 0) (h1 : ¬t.val % 8 = 7) (y : S8x512.Idx) (hy : (y 0).val < 4) :
    (outsAt0 m c t.val t.isLt).2.1 y = newM (iblk m c 1 t) (iblk m c 0 t) (k0_pay5 (F := Ideal)) y := by
  rw [outsAt0_A m c t h0 h1]
  frame_out
  simp (decide := true) only [↓View.readCov_skip, View.readCov_fill]
  exact canonM (iblk m c 1 t) (iblk m c 0 t) (k0_pay5 (F := Ideal)) _ y hy

/-- The first key block: sums. -/
theorem sum_A (c : Dev nD) (t : Fin cfg0.N) (h0 : t.val % 8 = 0) (h1 : ¬t.val % 8 = 7) (y : S8x512.Idx) (hy : (y 0).val < 4) :
    (outsAt0 m c t.val t.isLt).2.2.1 y = newL (iblk m c 1 t) (iblk m c 0 t) (k0_pay5 (F := Ideal)) (k0_pay6 (F := Ideal)) y := by
  rw [outsAt0_A m c t h0 h1]
  frame_out
  simp (decide := true) only [↓View.readCov_skip, View.readCov_fill]
  exact canonL (iblk m c 1 t) (iblk m c 0 t) (k0_pay5 (F := Ideal)) (k0_pay6 (F := Ideal)) _ y hy

/-- The first key block: accumulator. -/
theorem acc_A (c : Dev nD) (t : Fin cfg0.N) (h0 : t.val % 8 = 0) (h1 : ¬t.val % 8 = 7) (y : S4x128x512.Idx) :
    (outsAt0 m c t.val t.isLt).2.2.2 y = newA (iblk m c 1 t) (iblk m c 0 t) (iblk m c 2 t) (k0_pay5 (F := Ideal)) (k0_pay7 (F := Ideal)) y := by
  rw [outsAt0_A m c t h0 h1]
  frame_out
  simp (decide := true) only [↓View.readCov_skip, View.readCov_fill]
  exact canonA (iblk m c 1 t) (iblk m c 0 t) (iblk m c 2 t) (k0_pay5 (F := Ideal)) (k0_pay7 (F := Ideal)) _ y

/-- The point before, of a point that is not the first of its run. -/
theorem pred_lt (t : Fin cfg0.N) : t.val - 1 < cfg0.N := lt_of_le_of_lt (Nat.sub_le _ _) t.isLt

/-- A later key block: maxima. -/
theorem max_S (c : Dev nD) (t : Fin cfg0.N) (h0 : ¬t.val % 8 = 0) (y : S8x512.Idx) (hy : (y 0).val < 4) :
    (outsAt0 m c t.val t.isLt).2.1 y = newM (iblk m c 1 t) (iblk m c 0 t) (outsAt0 m c (t.val - 1) (pred_lt t)).2.1 y := by
  by_cases h1 : t.val % 8 = 7
  · rw [outsAt0_C m c t h0 h1]
    frame_out
    simp only [read_unread_whole]
    exact readM (iblk m c 1 t) (iblk m c 0 t) (outsAt0 m c (t.val - 1) (pred_lt t)).2.1 _ _ y hy
  · rw [outsAt0_B m c t h0 h1]
    frame_out
    simp only [read_unread_whole]
    exact readM (iblk m c 1 t) (iblk m c 0 t) (outsAt0 m c (t.val - 1) (pred_lt t)).2.1 _ _ y hy

/-- A later key block: sums. -/
theorem sum_S (c : Dev nD) (t : Fin cfg0.N) (h0 : ¬t.val % 8 = 0) (y : S8x512.Idx) (hy : (y 0).val < 4) :
    (outsAt0 m c t.val t.isLt).2.2.1 y
      = newL (iblk m c 1 t) (iblk m c 0 t) (outsAt0 m c (t.val - 1) (pred_lt t)).2.1 (outsAt0 m c (t.val - 1) (pred_lt t)).2.2.1 y := by
  by_cases h1 : t.val % 8 = 7
  · rw [outsAt0_C m c t h0 h1]
    frame_out
    simp only [read_unread_whole]
    exact readL (iblk m c 1 t) (iblk m c 0 t) (outsAt0 m c (t.val - 1) (pred_lt t)).2.1 (outsAt0 m c (t.val - 1) (pred_lt t)).2.2.1 _ _ y hy
  · rw [outsAt0_B m c t h0 h1]
    frame_out
    simp only [read_unread_whole]
    exact readL (iblk m c 1 t) (iblk m c 0 t) (outsAt0 m c (t.val - 1) (pred_lt t)).2.1 (outsAt0 m c (t.val - 1) (pred_lt t)).2.2.1 _ _ y hy

/-- A later key block: accumulator. -/
theorem acc_S (c : Dev nD) (t : Fin cfg0.N) (h0 : ¬t.val % 8 = 0) (y : S4x128x512.Idx) :
    (outsAt0 m c t.val t.isLt).2.2.2 y
      = newA (iblk m c 1 t) (iblk m c 0 t) (iblk m c 2 t) (outsAt0 m c (t.val - 1) (pred_lt t)).2.1 (outsAt0 m c (t.val - 1) (pred_lt t)).2.2.2 y := by
  by_cases h1 : t.val % 8 = 7
  · rw [outsAt0_C m c t h0 h1]
    frame_out
    simp only [read_unread_whole]
    exact canonA (iblk m c 1 t) (iblk m c 0 t) (iblk m c 2 t) (outsAt0 m c (t.val - 1) (pred_lt t)).2.1 (outsAt0 m c (t.val - 1) (pred_lt t)).2.2.2 [] y
  · rw [outsAt0_B m c t h0 h1]
    frame_out
    simp only [read_unread_whole]
    exact canonA (iblk m c 1 t) (iblk m c 0 t) (iblk m c 2 t) (outsAt0 m c (t.val - 1) (pred_lt t)).2.1 (outsAt0 m c (t.val - 1) (pred_lt t)).2.2.2 [] y

/-- The quotient a place of the output block takes: column `g * 128 + d` of row `q`. -/
def quot (L : FVec Ideal S8x512 .f32) (A : FVec Ideal S4x128x512 .f32) (y : S512x512.Idx) : EReal :=
  Ideal.div (A (ix3 ⟨(y 1).val / 128, by have h : (y 1).val < 512 := (y 1).isLt; omega⟩ ⟨(y 1).val % 128, Nat.mod_lt _ (by decide)⟩ (y 0)))
    (L (ix2 ⟨(y 1).val / 128, by have h : (y 1).val < 512 := (y 1).isLt; show _ < 8; omega⟩ (y 0)))

/-- What a head writes to its columns of the output block. -/
theorem piece_quot (L : FVec Ideal S8x512 .f32) (A : FVec Ideal S4x128x512 .f32) (g o : ℕ) (hg : g < 4) (ho : o = g * 128) (inbM inbA inbQ) (x : S512x128.Idx) :
    k0_pay1 (F := Ideal) (ldA A g inbA) (ldM L g inbM) x = quot L A ((rQ o inbQ).emb x) := by
  obtain ⟨q, d, rfl⟩ : ∃ (q : Fin 512) (d : Fin 128), x = ix2 q d :=
    ⟨x 0, x 1, by funext a; match a with | 0 => rfl | 1 => rfl⟩
  rw [pieceO L A g hg inbM inbA]
  have e0 : ((rQ o inbQ).emb (ix2 q d) 0).val = 0 + 1 * q.val := Rect.emb_apply (rQ o inbQ) (ix2 q d) 0
  have e1 : ((rQ o inbQ).emb (ix2 q d) 1).val = o + 1 * d.val := Rect.emb_apply (rQ o inbQ) (ix2 q d) 1
  have hd := d.isLt
  unfold quot
  congr 1
  · refine congrArg A (funext fun a => Fin.ext ?_)
    match a with
    | 0 => show g = ((rQ o inbQ).emb (ix2 q d) 1).val / 128; omega
    | 1 => show d.val = ((rQ o inbQ).emb (ix2 q d) 1).val % 128; omega
    | 2 => show q.val = ((rQ o inbQ).emb (ix2 q d) 0).val; omega
  · refine congrArg L (funext fun a => Fin.ext ?_)
    match a with
    | 0 => show g = ((rQ o inbQ).emb (ix2 q d) 1).val / 128; omega
    | 1 => show q.val = ((rQ o inbQ).emb (ix2 q d) 0).val; omega

/-- A place of the output block lies in the columns of its head. -/
theorem mem_rQ (o : ℕ) (inb) (y : S512x512.Idx) (h : o ≤ (y 1).val) (h' : (y 1).val < o + 128) : y ∈ (rQ o inb).set := by
  refine Rect.mem_set_unit.mpr fun a => ?_
  have h0 := (y 0).isLt
  match a with
  | 0 => exact ⟨Nat.zero_le _, by show (y 0).val < 0 + 512; simpa using h0⟩
  | 1 => exact ⟨h, h'⟩

/-- The four column ranges cover the output block. -/
theorem cover_rQ {w3 w2 w1 w0} (y : S512x512.Idx) :
    ∃ p ∈ ([⟨rQ 384 inb_S512x512_S512x128_0_384, w3⟩, ⟨rQ 256 inb_S512x512_S512x128_0_256, w2⟩, ⟨rQ 128 inb_S512x512_S512x128_0_128, w1⟩,
        ⟨rQ 0 inb_S512x512_S512x128_0_0, w0⟩] : List (View.Piece (Elt Ideal) S512x512 .bf16)), y ∈ p.1.set := by
  have hy : (y 1).val < 512 := (y 1).isLt
  by_cases a3 : 384 ≤ (y 1).val
  · exact ⟨_, .head _, mem_rQ 384 inb_S512x512_S512x128_0_384 y a3 (by omega)⟩
  by_cases a2 : 256 ≤ (y 1).val
  · exact ⟨_, .tail _ (.head _), mem_rQ 256 inb_S512x512_S512x128_0_256 y a2 (by omega)⟩
  by_cases a1 : 128 ≤ (y 1).val
  · exact ⟨_, .tail _ (.tail _ (.head _)), mem_rQ 128 inb_S512x512_S512x128_0_128 y a1 (by omega)⟩
  · exact ⟨_, .tail _ (.tail _ (.tail _ (.head _))), mem_rQ 0 inb_S512x512_S512x128_0_0 y (Nat.zero_le _) (by omega)⟩

/-- The last key block: the output block is the quotient of the new accumulator and the new sums. -/
theorem out_C (c : Dev nD) (t : Fin cfg0.N) (h0 : ¬t.val % 8 = 0) (h1 : t.val % 8 = 7) (y : S512x512.Idx) :
    (outsAt0 m c t.val t.isLt).1 y
      = quot (newL (iblk m c 1 t) (iblk m c 0 t) (outsAt0 m c (t.val - 1) (pred_lt t)).2.1 (outsAt0 m c (t.val - 1) (pred_lt t)).2.2.1)
          (newA (iblk m c 1 t) (iblk m c 0 t) (iblk m c 2 t) (outsAt0 m c (t.val - 1) (pred_lt t)).2.1 (outsAt0 m c (t.val - 1) (pred_lt t)).2.2.2) y := by
  rw [outsAt0_C m c t h0 h1]
  frame_out
  simp only [read_unread_whole]
  generalize (outsAt0 m c (t.val - 1) _).2.1 = M
  generalize (outsAt0 m c (t.val - 1) _).2.2.1 = L
  generalize (outsAt0 m c (t.val - 1) _).2.2.2 = A
  generalize iblk m c 0 t = X
  generalize iblk m c 1 t = K
  generalize iblk m c 2 t = V
  rw [loadL K X M L _ 3 (by decide) inb_S8x512_S1x512_3_0, loadL K X M L _ 2 (by decide) inb_S8x512_S1x512_2_0,
    loadL K X M L _ 1 (by decide) inb_S8x512_S1x512_1_0, loadL K X M L _ 0 (by decide) inb_S8x512_S1x512_0_0,
    loadA K X V M A _ 3 inb_S4x128x512_S1x128x512_3_0_0, loadA K X V M A _ 2 inb_S4x128x512_S1x128x512_2_0_0,
    loadA K X V M A _ 1 inb_S4x128x512_S1x128x512_1_0_0, loadA K X V M A _ 0 inb_S4x128x512_S1x128x512_0_0_0]
  refine View.canon_append_of_piecesOf (Val := Elt Ideal) (e := .bf16) (quot (newL K X M L) (newA K X V M A)) [] _ ?_ y (cover_rQ y)
  exact ⟨fun x => piece_quot _ _ 3 384 (by decide) rfl _ _ inb_S512x512_S512x128_0_384 x, fun x => piece_quot _ _ 2 256 (by decide) rfl _ _ inb_S512x512_S512x128_0_256 x,
    fun x => piece_quot _ _ 1 128 (by decide) rfl _ _ inb_S512x512_S512x128_0_128 x, fun x => piece_quot _ _ 0 0 (by decide) rfl _ _ inb_S512x512_S512x128_0_0 x, trivial⟩

end Cert.AttnIdeal.Call

end
-- ==== Proof.AttnReads.lean ====
module

public import proofs.«01_k».proof.Proof.AttnCases
public import Idealize.ShloMosaic.Lib.Pipeline.ValueKit
public import Idealize.ShloMosaic.Lib.Pointwise
public import Idealize.ShloMosaic.Lib.Claim

@[expose] public section

set_option maxRecDepth 16384

/-!
# Which entries of the projected array a grid point sees

The blocks of queries, keys and transposed values at a grid point are entries of the one projected array; `place_o` finds
the grid point that writes a given row and column of the output.
-/

noncomputable section

open Idealize.ShloMosaic Idealize.ShloMosaic.TcCoe Idealize.SL.Sem

namespace Cert.AttnIdeal.Call

open Cert.AttnIdeal Cert.AttnIdeal.Gen

variable (m : (ℓ : Loc nD τ sig) → Buf (Elt Ideal) ℓ)

/-- The entry of the projected array at a row and a column given as numbers. -/
def entry (a : FVec Ideal S16384x3072 .bf16) (i j : ℕ) : EReal :=
  if h : i < 16384 ∧ j < 3072 then a (ix2 ⟨i, h.1⟩ ⟨j, h.2⟩) else 0

/-- An entry is the array at any index of these numbers. -/
theorem entry_eq (a : FVec Ideal S16384x3072 .bf16) (y : S16384x3072.Idx) (i j : ℕ) (hi : (y 0).val = i) (hj : (y 1).val = j) :
    a y = entry a i j := by
  subst hi hj
  have h0 : (y 0).val < 16384 := (y 0).isLt
  have h1 : (y 1).val < 3072 := (y 1).isLt
  rw [entry, dif_pos ⟨h0, h1⟩]
  refine congrArg a (funext fun x => Fin.ext ?_)
  match x with
  | 0 => rfl
  | 1 => rfl

/-- The block each window stages at grid point `t`: with `r = t / 8`, batch `r / 64`, key head `r / 16 % 4`, query block `r % 16`, key
block `t % 8`. -/
theorem idx_val : ∀ t : Fin cfg0.N, win0_0.index t = ![t.val / 8 / 64 * 16 + t.val / 8 % 16, t.val / 8 / 16 % 4]
    ∧ win0_1.index t = ![t.val / 8 / 64 * 8 + t.val % 8, 16 + t.val / 8 / 16 % 4]
    ∧ win0_2.index t = ![t.val / 8 / 64 * 4 + t.val / 8 / 16 % 4, t.val % 8]
    ∧ win0_3.index t = ![t.val / 8 / 64 * 16 + t.val / 8 % 16, t.val / 8 / 16 % 4] :=
  (by decide +kernel : ∀ t : Fin grid0.N, _)

/-- The block of queries. -/
theorem read_q (c : Dev nD) (t : Fin cfg0.N) (q : Fin 512) (x : Fin 512) :
    iblk m c 0 t (ix2 q x) = entry (m ((c : Thread nD τ).loc main_arg0))
      ((t.val / 8 / 64 * 16 + t.val / 8 % 16) * 512 + q.val) (t.val / 8 / 16 % 4 * 512 + x.val) := by
  refine Eq.trans ?_ (entry_eq _ (((cfg0.win 0).blk t).view.emb (ix2 q x)) _ _ ?_ ?_)
  · rfl
  · blk_simp [idx_val t]
  · blk_simp [idx_val t]

/-- The block of keys. -/
theorem read_k (c : Dev nD) (t : Fin cfg0.N) (k : Fin 1024) (d : Fin 128) :
    iblk m c 1 t (ix2 k d) = entry (m ((c : Thread nD τ).loc main_arg0))
      ((t.val / 8 / 64 * 8 + t.val % 8) * 1024 + k.val) ((16 + t.val / 8 / 16 % 4) * 128 + d.val) := by
  refine Eq.trans ?_ (entry_eq _ (((cfg0.win 1).blk t).view.emb (ix2 k d)) _ _ ?_ ?_)
  · rfl
  · blk_simp [idx_val t]
  · blk_simp [idx_val t]

/-- The block of values, which the host program transposes first. -/
theorem read_v (c : Dev nD) (t : Fin cfg0.N) (d : Fin 128) (k : Fin 1024) :
    iblk m c 2 t (ix2 d k) = entry (m ((c : Thread nD τ).loc main_arg0))
      ((t.val / 8 / 64 * 8 + t.val % 8) * 1024 + k.val) (2560 + t.val / 8 / 16 % 4 * 128 + d.val) := by
  have e : V m c (Pipeline.arrRef spec0 2) = shapeCast S1024x8192 (transpose S2x512x8192 [0, 2, 1] (shapeCast S2x8192x512
      (extractStridedSlice S16384x512 ![0, 2560] (m ((c : Thread nD τ).loc main_arg0)) slices_S16384x3072_S16384x512_0_2560)
      shapeCasts_S16384x512_S2x8192x512) transposes_S2x8192x512_S2x512x8192_0_2_1) shapeCasts_S2x512x8192_S1024x8192 := by
    unfold V
    after_results <;> rfl
  show V m c (Pipeline.arrRef spec0 2) (((cfg0.win 2).blk t).view.emb (ix2 d k)) = _
  rw [e]
  pointwise
  have hd := d.isLt
  have hk := k.isLt
  refine entry_eq _ _ _ _ ?_ ?_
  · blk_simp [idx_val t]
    dsimp only
    omega
  · blk_simp [idx_val t]
    dsimp only
    omega

/-- The place of the projected query block: where the output block of a point sits. -/
theorem place_o (t : Fin cfg0.N) (y : S512x512.Idx) :
    ((((cfg0.win 3).blk t).view.emb y) 0).val = (t.val / 8 / 64 * 16 + t.val / 8 % 16) * 512 + (y 0).val
      ∧ ((((cfg0.win 3).blk t).view.emb y) 1).val = t.val / 8 / 16 % 4 * 512 + (y 1).val := by
  refine ⟨?_, ?_⟩
  · blk_simp [idx_val t]
  · blk_simp [idx_val t]

end Cert.AttnIdeal.Call

end
-- ==== Proof.Softmax.lean ====
module

public import Idealize.ShloMosaic.Lib.Pointwise
public import Idealize.ShloMosaic.PureOps.Ideal.Laws

@[expose] public section

/-!
# Softmax in one pass over the keys

A softmax-weighted sum `∑ v k · exp (s k - M) / ∑ exp (s j - M)` can be accumulated block after block of keys while keeping
three numbers: a running maximum `m`, the sum `l` of the exponentials shifted by `m`, and the sum `a` of the exponentials
times the values. When a block raises the maximum, the two sums are first multiplied by `exp (m_old - m_new)`.

The scores are real numbers; the values `v` may be infinite, since only multiplication by nonnegative reals is distributed
over sums of them.
-/

noncomputable section

namespace Cert.Softmax

open Idealize.ShloMosaic

/-- A nonnegative real factor distributes over a finite sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of real numbers, taken in the extended reals, is the real sum. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The maximum of a real number and of finitely many real numbers, from minus infinity, is a real number. -/
theorem max_fold_real {ι : Type*} (s : Finset ι) (x : ℝ) (f : ι → ℝ) :
    ∃ y : ℝ, max (x : EReal) (s.fold max ⊥ fun k => (f k : EReal)) = (y : EReal) := by
  classical
  induction s using Finset.induction_on with
  | empty => exact ⟨x, by simp⟩
  | insert a s ha ih =>
    obtain ⟨y, hy⟩ := ih
    refine ⟨max (f a) y, ?_⟩
    rw [Finset.fold_insert ha, max_left_comm, hy]
    exact (Monotone.map_max (f := fun x : ℝ => (x : EReal)) fun a b h => EReal.coe_le_coe_iff.mpr h).symm

/-- The maximum of finitely many real numbers, at least one, from minus infinity, is a real number. -/
theorem fold_real {ι : Type*} (s : Finset ι) (hs : s.Nonempty) (f : ι → ℝ) :
    ∃ y : ℝ, (s.fold max ⊥ fun k => (f k : EReal)) = (y : EReal) := by
  classical
  obtain ⟨a, ha⟩ := hs
  rw [← Finset.insert_erase ha, Finset.fold_insert (Finset.notMem_erase a s)]
  exact max_fold_real _ (f a) f

/-- The three running numbers after `n` blocks of keys: a real `m`, the sum of the exponentials shifted by it, and the sum of the
exponentials times the values. -/
def Inv {B : ℕ} (n : ℕ) (σ : ℕ → Fin B → ℝ) (v : ℕ → Fin B → EReal) (m l a : EReal) : Prop :=
  ∃ μ : ℝ, m = (μ : EReal)
    ∧ l = ∑ j ∈ Finset.range n, ∑ k, ((Real.exp (σ j k - μ) : ℝ) : EReal)
    ∧ a = ∑ j ∈ Finset.range n, ∑ k, v j k * ((Real.exp (σ j k - μ) : ℝ) : EReal)

/-- Before the first block the two sums are empty and the maximum may be any real number. -/
theorem Inv.init {B : ℕ} (σ : ℕ → Fin B → ℝ) (v : ℕ → Fin B → EReal) (μ : ℝ) : Inv 0 σ v (μ : EReal) 0 0 :=
  ⟨μ, rfl, by simp, by simp⟩

/-- One block more: the maximum is raised, the sums are rescaled and the block's terms are added. -/
theorem Inv.step {B n : ℕ} {σ : ℕ → Fin B → ℝ} {v : ℕ → Fin B → EReal} {m l a : EReal} (h : Inv n σ v m l a)
    (s w : Fin B → EReal) (hs : ∀ k, s k = (σ n k : EReal)) (hw : ∀ k, w k = v n k) {m' l' a' : EReal}
    (hm : m' = max m (Finset.univ.fold max ⊥ s))
    (hl : l' = Ideal.exp (m - m') * l + ∑ k, Ideal.exp (s k - m'))
    (ha : a' = Ideal.exp (m - m') * a + ∑ k, w k * Ideal.exp (s k - m')) :
    Inv (n + 1) σ v m' l' a' := by
  obtain ⟨μ, rfl, rfl, rfl⟩ := h
  obtain ⟨μ', hμ'⟩ := max_fold_real Finset.univ μ (σ n)
  obtain rfl : s = fun k => (σ n k : EReal) := funext hs
  obtain rfl : w = v n := funext hw
  rw [hμ'] at hm
  subst hm
  have e : ∀ x y : ℝ, Ideal.exp ((x : EReal) - (y : EReal)) = ((Real.exp (x - y) : ℝ) : EReal) := fun x y => by
    rw [← EReal.coe_sub, Ideal.exp_coe]
  have hc : ∀ j k, ((Real.exp (μ - μ') : ℝ) : EReal) * ((Real.exp (σ j k - μ) : ℝ) : EReal)
      = ((Real.exp (σ j k - μ') : ℝ) : EReal) := fun j k => by
    rw [← EReal.coe_mul, ← Real.exp_add]
    congr 2; ring
  have hp : (0 : ℝ) ≤ Real.exp (μ - μ') := (Real.exp_pos _).le
  refine ⟨μ', rfl, ?_, ?_⟩
  · rw [hl, Finset.sum_range_succ, e, coe_mul_sum _ _ hp]
    refine congrArg₂ (· + ·) ?_ (Finset.sum_congr rfl fun k _ => e _ _)
    exact Finset.sum_congr rfl fun j _ => by
        rw [coe_mul_sum _ _ hp]; exact Finset.sum_congr rfl fun k _ => hc j k
  · rw [ha, Finset.sum_range_succ, e, coe_mul_sum _ _ hp]
    refine congrArg₂ (· + ·) ?_ (Finset.sum_congr rfl fun k _ => by rw [e])
    exact Finset.sum_congr rfl fun j _ => by
        rw [coe_mul_sum _ _ hp]
        exact Finset.sum_congr rfl fun k _ => by rw [mul_left_comm, hc]

/-- After the last of `N` blocks, the quotient of the two sums is the softmax-weighted sum of the values over all keys: the
reference's, which shifts by the maximum over all keys and divides every exponential. -/
theorem Inv.quotient {B N : ℕ} {σ : ℕ → Fin B → ℝ} {v : ℕ → Fin B → EReal} {m l a : EReal} (h : Inv N σ v m l a)
    {T : ℕ} (hT : N * B = T) (hT0 : 0 < T) (s w : Fin T → EReal)
    (hs : ∀ (j : Fin N) (k : Fin B) (i : Fin T), i.val = j.val * B + k.val → s i = (σ j k : EReal))
    (hw : ∀ (j : Fin N) (k : Fin B) (i : Fin T), i.val = j.val * B + k.val → w i = v j k) {M L : EReal}
    (hM : M = max ⊥ (Finset.univ.fold max ⊥ s)) (hL : L = ∑ i, Ideal.exp (s i - M)) :
    Ideal.div a l = ∑ i, w i * Ideal.div (Ideal.exp (s i - M)) L := by
  obtain ⟨μ, -, rfl, rfl⟩ := h
  have hB : 0 < B := Nat.pos_of_mul_pos_left (hT ▸ hT0)
  have hN : 0 < N := Nat.pos_of_mul_pos_right (hT ▸ hT0)
  obtain ⟨τ, rfl⟩ : ∃ τ : Fin T → ℝ, s = fun i => (τ i : EReal) := by
    refine ⟨fun i => σ (i.val / B) ⟨i.val % B, Nat.mod_lt _ hB⟩, funext fun i => ?_⟩
    refine hs ⟨i.val / B, ?_⟩ ⟨i.val % B, Nat.mod_lt _ hB⟩ i ?_
    · rw [Nat.div_lt_iff_lt_mul hB, hT]; exact i.isLt
    · exact (Nat.div_add_mod' _ _).symm
  haveI : Nonempty (Fin T) := ⟨⟨0, hT0⟩⟩
  obtain ⟨M', hM'⟩ := fold_real Finset.univ Finset.univ_nonempty τ
  rw [hM', max_eq_right bot_le] at hM
  subst hM
  have e : ∀ x y : ℝ, Ideal.exp ((x : EReal) - (y : EReal)) = ((Real.exp (x - y) : ℝ) : EReal) := fun x y => by
    rw [← EReal.coe_sub, Ideal.exp_coe]
  have hτ : ∀ (j : Fin N) (k : Fin B) (i : Fin T), i.val = j.val * B + k.val → τ i = σ j k := fun j k i hi => by
    exact EReal.coe_injective (hs j k i hi)
  have lsum : ∑ j ∈ Finset.range N, ∑ k, ((Real.exp (σ j k - μ) : ℝ) : EReal) = ((∑ i, Real.exp (τ i - μ) : ℝ) : EReal) := by
    rw [← sum_coe, Fin.sum_univ_tiles N B hT, Finset.sum_range]
    exact Finset.sum_congr rfl fun j _ => Finset.sum_congr rfl fun k _ => by rw [hτ j k _ rfl]
  have asum : ∑ j ∈ Finset.range N, ∑ k, v j k * ((Real.exp (σ j k - μ) : ℝ) : EReal)
      = ∑ i, w i * ((Real.exp (τ i - μ) : ℝ) : EReal) := by
    rw [Fin.sum_univ_tiles N B hT, Finset.sum_range]
    exact Finset.sum_congr rfl fun j _ => Finset.sum_congr rfl fun k _ => by rw [hτ j k _ rfl, hw j k _ rfl]
  have pos : ∀ x : ℝ, 0 < ∑ i, Real.exp (τ i - x) := fun x =>
    Finset.sum_pos (fun i _ => Real.exp_pos _) Finset.univ_nonempty
  have hL' : L = ((∑ i, Real.exp (τ i - M') : ℝ) : EReal) := by
    rw [hL, ← sum_coe]
    exact Finset.sum_congr rfl fun i _ => e _ _
  rw [lsum, asum, Ideal.div_coe (pos μ).ne', mul_comm,
    coe_mul_sum _ _ (one_div_nonneg.mpr (pos μ).le)]
  refine Finset.sum_congr rfl fun i _ => ?_
  rw [hL', e, Ideal.div_coe (pos M').ne', mul_left_comm, ← EReal.coe_mul, ← EReal.coe_mul]
  congr 2
  have hr : ∀ i, Real.exp (τ i - μ) = Real.exp (τ i - M') * Real.exp (M' - μ) := fun i => by
    rw [← Real.exp_add]; congr 1; ring
  have hq : ∑ i, Real.exp (τ i - μ) = (∑ i, Real.exp (τ i - M')) * Real.exp (M' - μ) := by
    rw [Finset.sum_mul]; exact Finset.sum_congr rfl fun i _ => hr i
  rw [hr, hq]
  have h1 := (pos M').ne'
  have h2 := (Real.exp_pos (M' - μ)).ne'
  field_simp

/-- A finite sum of products of finite extended reals is a real number. -/
theorem sum_mul_real {ι : Type*} (s : Finset ι) (f g : ι → EReal) (hf : ∀ k, ∃ x : ℝ, f k = x) (hg : ∀ k, ∃ x : ℝ, g k = x) :
    ∃ x : ℝ, ∑ k ∈ s, f k * g k = (x : EReal) := by
  choose f' hf' using hf
  choose g' hg' using hg
  refine ⟨∑ k ∈ s, f' k * g' k, ?_⟩
  rw [← sum_coe]
  exact Finset.sum_congr rfl fun k _ => by rw [hf', hg', EReal.coe_mul]

end Cert.Softmax

end
-- ==== Proof.AttnRun.lean ====
module

public import proofs.«01_k».proof.Proof.AttnReads
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

/-!
# The invariant along the key blocks

After `n + 1` key blocks the running maximum is the largest of the scores so far, and the running sums are those of the
exponentials shifted by this maximum (`Cert.Softmax`). `run_inv` is this statement for every grid point, by induction.
-/

noncomputable section

open Idealize.ShloMosaic Idealize.ShloMosaic.TcCoe Idealize.SL.Sem

namespace Cert.AttnIdeal.Call

open Cert.AttnIdeal Cert.AttnIdeal.Gen

variable (m : (ℓ : Loc nD τ sig) → Buf (Elt Ideal) ℓ)

/-- The score of query row `i` and key row `j` of batch `b`, for query head `g` of key head `h`. -/
def score (a : FVec Ideal S16384x3072 .bf16) (b h g i j : ℕ) : EReal :=
  ∑ d : Fin 128, entry a (b * 8192 + j) ((16 + h) * 128 + d.val) * entry a (b * 8192 + i) (h * 512 + (g * 128 + d.val))

/-- The value of key row `j` of batch `b` at place `d` of key head `h`. -/
def value (a : FVec Ideal S16384x3072 .bf16) (b h d j : ℕ) : EReal := entry a (b * 8192 + j) (2560 + h * 128 + d)

/-- Scores are real when the queries and the keys are. -/
theorem score_real (a : FVec Ideal S16384x3072 .bf16) (hfin : ∀ i j, j < 2560 → ∃ x : ℝ, entry a i j = x) (b h g i j : ℕ) (hh : h < 4) (hg : g < 4) :
    ∃ x : ℝ, score a b h g i j = x :=
  Cert.Softmax.sum_mul_real _ _ _ (fun d => hfin _ _ (by have := d.isLt; omega)) (fun d => hfin _ _ (by have := d.isLt; omega))

/-- The block's scores at a grid point are scores of the whole array. -/
theorem sc_score (c : Dev nD) (t : Fin cfg0.N) (g : ℕ) (hg : g < 4) (k : Fin 1024) (q : Fin 512) :
    sc (iblk m c 1 t) (iblk m c 0 t) g k q = score (m ((c : Thread nD τ).loc main_arg0)) (t.val / 8 / 64) (t.val / 8 / 16 % 4) g
      (t.val / 8 % 16 * 512 + q.val) (t.val % 8 * 1024 + k.val) := by
  unfold sc score
  refine Finset.sum_congr rfl fun d _ => ?_
  rw [read_k, read_q]
  refine congrArg₂ (· * ·) (congrArg₂ (entry _) ?_ rfl) (congrArg₂ (entry _) ?_ ?_)
  · ring
  · ring
  · show t.val / 8 / 16 % 4 * 512 + (g % 4 * 128 + d.val) = _
    rw [Nat.mod_eq_of_lt hg]

/-- The block's values at a grid point are values of the whole array. -/
theorem val_value (c : Dev nD) (t : Fin cfg0.N) (d : Fin 128) (k : Fin 1024) :
    iblk m c 2 t (ix2 d k) = value (m ((c : Thread nD τ).loc main_arg0)) (t.val / 8 / 64) (t.val / 8 / 16 % 4) d.val (t.val % 8 * 1024 + k.val) := by
  rw [read_v]
  unfold value
  exact congrArg₂ (entry _) (by ring) rfl

/-- The maxima start from one finite number. -/
theorem start_max (y : S8x512.Idx) : ∃ x : ℝ, k0_pay5 (F := Ideal) y = x := by
  have h : k0_pay5 (F := Ideal) y = Ideal.ofBits .f32 0xF149F2CA#32 := by pointwise [k0_pay5]; first | rfl | done
  rw [h]
  simp only [Ideal.ofBits, Ideal.ieee]
  exact ⟨_, rfl⟩

/-- The sums start from zero. -/
theorem start_sum (y : S8x512.Idx) : k0_pay6 (F := Ideal) y = 0 := by
  pointwise [k0_pay6]

/-- The accumulator starts from zero. -/
theorem start_acc (y : S4x128x512.Idx) : k0_pay7 (F := Ideal) y = 0 := by
  pointwise [k0_pay7]

/-- The word the maxima of a block are folded from is minus infinity. -/
theorem bits_bot : Ideal.ofBits .f32 0xFF800000#32 = ⊥ := by
  simp [Ideal.ofBits, Ideal.ieee]

/-- What the three scratch buffers hold of one head, one query and one place of the head, after the point of key block `j`: the running
maximum, sum and accumulator of the first `j + 1` blocks. -/
theorem run_inv (c : Dev nD) (σ : ℕ → Fin 1024 → ℝ) (r g : ℕ) (hg : g < 4) (q : Fin 512) (d : Fin 128)
    (hσ : ∀ j k, score (m ((c : Thread nD τ).loc main_arg0)) (r / 64) (r / 16 % 4) g (r % 16 * 512 + q.val) (j * 1024 + k.val) = (σ j k : EReal)) :
    ∀ (j : ℕ) (t : Fin cfg0.N), t.val = 8 * r + j → j < 8 →
      Cert.Softmax.Inv (j + 1) σ (fun j k => value (m ((c : Thread nD τ).loc main_arg0)) (r / 64) (r / 16 % 4) d.val (j * 1024 + k.val))
        ((outsAt0 m c t.val t.isLt).2.1 (ix2 ⟨g, lt_trans hg (by decide)⟩ q)) ((outsAt0 m c t.val t.isLt).2.2.1 (ix2 ⟨g, lt_trans hg (by decide)⟩ q))
        ((outsAt0 m c t.val t.isLt).2.2.2 (ix3 ⟨g, hg⟩ d q)) := by
  intro j
  induction j with
  | zero =>
    intro t ht _
    have hr : t.val / 8 = r := by omega
    have hj : t.val % 8 = 0 := by omega
    obtain ⟨μ, hμ⟩ := start_max (ix2 ⟨g, lt_trans hg (by decide)⟩ q)
    refine Cert.Softmax.Inv.step (Cert.Softmax.Inv.init σ _ μ) (fun k => sc (iblk m c 1 t) (iblk m c 0 t) g k q)
      (fun k => iblk m c 2 t (ix2 d k)) (fun k => ?_) (fun k => ?_) ?_ ?_ ?_
    · rw [sc_score m c t g hg, hr, hj]; exact hσ 0 k
    · show iblk m c 2 t (ix2 d k) = _
      rw [val_value, hr, hj]
    · rw [max_A m c t hj (by omega) _ hg]
      unfold newM
      rw [hμ, bits_bot]
      rfl
    · rw [sum_A m c t hj (by omega) _ hg, max_A m c t hj (by omega) _ hg]
      unfold newL
      rw [hμ, start_sum]
      rfl
    · rw [acc_A m c t hj (by omega), max_A m c t hj (by omega) _ hg]
      unfold newA
      rw [start_acc]
      show Ideal.exp (k0_pay5 (F := Ideal) (ix2 ⟨g, lt_trans hg (by decide)⟩ q) - _) * 0 + _ = _
      rw [hμ]
      rfl
  | succ j ih =>
    intro t ht hj8
    have hr : t.val / 8 = r := by omega
    have hj : t.val % 8 = j + 1 := by omega
    have h0 : ¬t.val % 8 = 0 := by omega
    refine Cert.Softmax.Inv.step (ih ⟨t.val - 1, pred_lt t⟩ (by show t.val - 1 = _; omega) (by omega)) (fun k => sc (iblk m c 1 t) (iblk m c 0 t) g k q)
      (fun k => iblk m c 2 t (ix2 d k)) (fun k => ?_) (fun k => ?_) ?_ ?_ ?_
    · rw [sc_score m c t g hg, hr, hj]; exact hσ (j + 1) k
    · show iblk m c 2 t (ix2 d k) = _
      rw [val_value, hr, hj]
    · rw [max_S m c t h0 _ hg]
      unfold newM
      rw [bits_bot]
      rfl
    · rw [sum_S m c t h0 _ hg, max_S m c t h0 _ hg]
      rfl
    · rw [acc_S m c t h0, max_S m c t h0 _ hg]
      rfl

end Cert.AttnIdeal.Call

end
-- ==== Proof.AttnRef.lean ====
module

public import proofs.«01_k».proof.Proof.Gen.AttnRefIdeal.Run
public import Idealize.ShloMosaic.Lib.StableHlo
public import Idealize.ShloMosaic.Lib.Pipeline.ValueKit
public import Idealize.ShloMosaic.Lib.Pointwise
public import Idealize.ShloMosaic.Lib.Claim

@[expose] public section

set_option maxRecDepth 16384

/-!
# The reference, entry by entry

The reference's scores, maxima, exponentials, sums and output as terms over its argument, and an entry of each as a sum or a
maximum over keys.
-/

noncomputable section

open Idealize.ShloMosaic Idealize.ShloMosaic.TcCoe Idealize.SL.Sem

namespace Cert.AttnRefIdeal.Term

open Cert.AttnRefIdeal Cert.AttnRefIdeal.Gen

/-- The scores of all queries and all keys: batch, key head, query head of the key head, query, key. -/
abbrev SC (a : FVec Ideal S16384x3072 .bf16) : FVec Ideal S2x4x4x8192x8192 .f32 := transpose S2x4x4x8192x8192 [0, 1, 4, 3, 2] (Host.dotGeneral dot_S2x8192x4x128_S2x8192x4x4x128_S2x4x8192x8192x4_3_4_1_13_02_02 none (shapeCast _ (extractStridedSlice S16384x512 ![0, 2048] (extf .f32 a bitsLt_bf16_f32) slices_S16384x3072_S16384x512_0_2048) shapeCasts_S16384x512_S2x8192x4x128) (shapeCast _ (extractStridedSlice S16384x2048 ![0, 0] (extf .f32 a bitsLt_bf16_f32) slices_S16384x3072_S16384x2048_0_0) shapeCasts_S16384x2048_S2x8192x4x4x128)) transposes_S2x4x8192x8192x4_S2x4x4x8192x8192_0_1_4_3_2

/-- The largest score of every query. -/
abbrev MX (a : FVec Ideal S16384x3072 .bf16) : FVec Ideal S2x4x4x8192 .f32 := maximumf (broadcastInDim S2x4x4x8192 ![] bcast_S_S2x4x4x8192 (constant S_ .f32 0xFF800000#32)) (Host.reduce FloatOps.maximumf (SC a) (constant S_ .f32 0xFF800000#32) reducesTo_S2x4x4x8192x8192_S2x4x4x8192_d4 h_S_)

/-- The exponentials of the scores, shifted by the largest. -/
abbrev EX (a : FVec Ideal S16384x3072 .bf16) : FVec Ideal S2x4x4x8192x8192 .f32 := Host.exp (subf (SC a) (broadcastInDim S2x4x4x8192x8192 ![0, 1, 2, 3, 4] bcast_S2x4x4x8192x1_S2x4x4x8192x8192_0_1_2_3_4 (broadcastInDim S2x4x4x8192x1 ![0, 1, 2, 3] bcast_S2x4x4x8192_S2x4x4x8192x1_0_1_2_3 (MX a))))

/-- The sum of the exponentials of every query. -/
abbrev SM (a : FVec Ideal S16384x3072 .bf16) : FVec Ideal S2x4x4x8192 .f32 := Host.reduceAdd (EX a) (constant S_ .f32 0x00000000#32) reducesTo_S2x4x4x8192x8192_S2x4x4x8192_d4 h_S_

/-- The array the reference returns, as a term over its argument. -/
abbrev REF (a : FVec Ideal S16384x3072 .bf16) : FVec Ideal S16384x2048 .bf16 := truncf .bf16 (shapeCast _ (transpose S2x8192x4x4x128 [0, 4, 1, 3, 2] (Host.dotGeneral dot_S2x8192x4x128_S2x4x4x8192x8192_S2x4x128x4x8192_1_4_3_23_02_01 none (shapeCast _ (extractStridedSlice S16384x512 ![0, 2560] (extf .f32 a bitsLt_bf16_f32) slices_S16384x3072_S16384x512_0_2560) shapeCasts_S16384x512_S2x8192x4x128) (Host.divf (EX a) (broadcastInDim S2x4x4x8192x8192 ![0, 1, 2, 3, 4] bcast_S2x4x4x8192x1_S2x4x4x8192x8192_0_1_2_3_4 (broadcastInDim S2x4x4x8192x1 ![0, 1, 2, 3] bcast_S2x4x4x8192_S2x4x4x8192x1_0_1_2_3 (SM a))))) transposes_S2x4x128x4x8192_S2x8192x4x4x128_0_4_1_3_2) shapeCasts_S2x8192x4x4x128_S16384x2048) bitsLt_bf16_f32

/-- The reference's fold of maxima along the keys, for any number of queries and keys. -/
theorem hostMax {n n' : ℕ} (x : FVec Ideal ⟨5, ![2, 4, 4, n, n']⟩ .f32) (w : BitVec 32)
    (h' : (⟨5, ![2, 4, 4, n, n']⟩ : Shape).ReducesTo [4] (⟨4, ![2, 4, 4, n]⟩ : Shape))
    (h : (⟨5, ![2, 4, 4, n, n']⟩ : Shape).Reduces [4] (⟨4, ![2, 4, 4, n]⟩ : Shape)) (hu : 0 < (⟨0, ![]⟩ : Shape).numel)
    (b : Fin 2) (k g : Fin 4) (i : Fin n) :
    Host.reduce FloatOps.maximumf x (constant (F := Ideal) (⟨0, ![]⟩ : Shape) .f32 w) h' hu (ix4 b k g i)
      = Finset.univ.fold max (Ideal.ofBits .f32 w) fun j : Fin n' => x (ix5 b k g i j) := by
  rw [Host.reduce_eq_fold_single FloatOps.maximumf x _ h' h hu]
  have hf : (x ∘ h.lift (ix4 b k g i)) = fun j : Fin n' => x (ix5 b k g i j) := by
    funext j
    refine congrArg x (funext fun c => Fin.ext ?_)
    fin_cases c <;> rfl
  exact congrArg (fun f => Finset.fold max (Ideal.ofBits .f32 w) f (Finset.univ : Finset (Fin n'))) hf

/-- The score of one query and one key. -/
theorem sc_at (a : FVec Ideal S16384x3072 .bf16) (b : Fin 2) (h g : Fin 4) (i j : Fin 8192) : SC a (ix5 b h g i j)
    = ∑ x : Fin 128, a (ix2 ⟨b.val * 8192 + j.val, by omega⟩ ⟨2048 + (h.val * 128 + x.val), by omega⟩)
        * a (ix2 ⟨b.val * 8192 + i.val, by omega⟩ ⟨h.val * 512 + g.val * 128 + x.val, by omega⟩) := by
  pointwise [SC]

/-- The fold of maxima at one query. -/
theorem fold_at (s : FVec Ideal S2x4x4x8192x8192 .f32) (b : Fin 2) (h g : Fin 4) (i : Fin 8192) :
    Host.reduce FloatOps.maximumf s (constant (F := Ideal) S_ .f32 0xFF800000#32) reducesTo_S2x4x4x8192x8192_S2x4x4x8192_d4 h_S_ (ix4 b h g i)
      = Finset.univ.fold max (Ideal.ofBits .f32 0xFF800000#32) fun j : Fin 8192 => s (ix5 b h g i j) :=
  hostMax s 0xFF800000#32 reducesTo_S2x4x4x8192x8192_S2x4x4x8192_d4 (by decide) h_S_ b h g i

/-- The maximum with minus infinity that the reference takes after the fold. -/
theorem top_at (z : FVec Ideal S2x4x4x8192 .f32) (b : Fin 2) (h g : Fin 4) (i : Fin 8192) :
    maximumf (broadcastInDim S2x4x4x8192 ![] bcast_S_S2x4x4x8192 (constant (F := Ideal) S_ .f32 0xFF800000#32)) z (ix4 b h g i)
      = max (Ideal.ofBits .f32 0xFF800000#32) (z (ix4 b h g i)) := by
  pointwise

/-- The word that both maxima start from is minus infinity. -/
theorem bits_bot : Ideal.ofBits .f32 0xFF800000#32 = ⊥ := by simp [Ideal.ofBits, Ideal.ieee]

/-- The largest score of one query. -/
theorem mx_at (a : FVec Ideal S16384x3072 .bf16) (b : Fin 2) (h g : Fin 4) (i : Fin 8192) : MX a (ix4 b h g i)
    = max (Ideal.ofBits .f32 0xFF800000#32) (Finset.univ.fold max (Ideal.ofBits .f32 0xFF800000#32) fun j : Fin 8192 => SC a (ix5 b h g i j)) :=
  (top_at _ b h g i).trans (congrArg (max (Ideal.ofBits .f32 0xFF800000#32)) (fold_at (SC a) b h g i))

/-- The same from minus infinity itself. -/
theorem mx_bot (a : FVec Ideal S16384x3072 .bf16) (b : Fin 2) (h g : Fin 4) (i : Fin 8192) : MX a (ix4 b h g i)
    = max ⊥ (Finset.univ.fold max ⊥ fun j : Fin 8192 => SC a (ix5 b h g i j)) := by
  rw [mx_at, bits_bot]

/-- One shifted exponential. -/
theorem ex_at (a : FVec Ideal S16384x3072 .bf16) (b : Fin 2) (h g : Fin 4) (i j : Fin 8192) :
    EX a (ix5 b h g i j) = Ideal.exp (SC a (ix5 b h g i j) - MX a (ix4 b h g i)) := by
  unfold EX
  generalize SC a = s
  generalize MX a = x
  pointwise

/-- The sum of the exponentials of one query. -/
theorem sm_at (a : FVec Ideal S16384x3072 .bf16) (b : Fin 2) (h g : Fin 4) (i : Fin 8192) :
    SM a (ix4 b h g i) = ∑ j : Fin 8192, EX a (ix5 b h g i j) := by
  unfold SM
  generalize EX a = s
  pointwise

/-- One entry of the reference's array. -/
theorem ref_at (a : FVec Ideal S16384x3072 .bf16) (y : S16384x2048.Idx) (h0 : (y 0).val < 16384) (h1 : (y 1).val < 2048) :
    REF a y = ∑ j : Fin 8192, a (ix2 ⟨(y 0).val / 8192 * 8192 + j.val, by omega⟩ ⟨2560 + ((y 1).val / 512 * 128 + (y 1).val % 128), by omega⟩)
      * Ideal.div (EX a (ix5 ⟨(y 0).val / 8192, by omega⟩ ⟨(y 1).val / 512, by omega⟩ ⟨(y 1).val / 128 % 4, by omega⟩ ⟨(y 0).val % 8192, by omega⟩ j))
          (SM a (ix4 ⟨(y 0).val / 8192, by omega⟩ ⟨(y 1).val / 512, by omega⟩ ⟨(y 1).val / 128 % 4, by omega⟩ ⟨(y 0).val % 8192, by omega⟩)) := by
  unfold REF
  generalize EX a = s
  generalize SM a = x
  pointwise

end Cert.AttnRefIdeal.Term

end
-- ==== Proof.Attn.lean ====
module

public import proofs.«01_k».proof.Proof.AttnRun
public import proofs.«01_k».proof.Proof.AttnRef
public import proofs.«01_k».proof.Proof.Gen.Pre_finite_qk
public import Idealize.ShloMosaic.Lib.Pipeline.ValueKit
public import Idealize.ShloMosaic.Lib.Pointwise
public import Idealize.ShloMosaic.Lib.Claim

@[expose] public section

set_option maxRecDepth 16384

/-!
# The attention

Where the queries and keys are finite, the array the call leaves is the reference's softmax-weighted sum of the values:
`final`. A running softmax over the key blocks and the reference's softmax over all keys at once agree because the
scores are real numbers.
-/

noncomputable section

open Idealize.ShloMosaic Idealize.ShloMosaic.TcCoe Idealize.SL.Sem
open Idealize.ShloMosaic.Pipeline (Dat)

namespace Cert.Pre_finite_qk

open Cert.Pre_finite_qk.Gen

/-- Where the precondition holds, every entry of the queries and of the keys is a real number. -/
theorem real_of (a : FVec Ideal S16384x3072 .bf16) (hp : fn (F := Ideal) a = fun _ => 1#1) (i : Fin 16384) (j : Fin 3072) (hj : j.val < 2560) :
    ∃ x : ℝ, a (ix2 i j) = (x : EReal) := by
  have h := congrFun hp (ix2 i (⟨j.val, hj⟩ : Fin 2560))
  pointwise [fn] at h
  have ht : Ideal.ofBits .f32 0x7F800000#32 = ⊤ := by simp [Ideal.ofBits, Ideal.ieee]
  have e : ix2 i (⟨j.val, lt_trans hj (by decide)⟩ : Fin 3072) = ix2 i j := rfl
  rw [ht] at h
  generalize a (ix2 i j) = x at h ⊢
  have hb : ∀ b : Bool, BitVec.ofBool b = 1#1 → b = true := by decide
  have hlt : max (x : EReal) (-x) < ⊤ := of_decide_eq_true (hb _ h)
  induction x using EReal.rec with
  | bot => simp at hlt
  | coe x => exact ⟨x, rfl⟩
  | top => simp at hlt

end Cert.Pre_finite_qk

namespace Cert.AttnIdeal.Call

open Cert.AttnIdeal Cert.AttnIdeal.Gen Cert.AttnRefIdeal.Term

variable (m : (ℓ : Loc nD τ sig) → Buf (Elt Ideal) ℓ)

/-- The same, for entries named by numbers. -/
theorem entry_real (a : FVec Ideal S16384x3072 .bf16) (hp : Cert.Pre_finite_qk.fn (F := Ideal) a = fun _ => 1#1) (i j : ℕ) (hj : j < 2560) :
    ∃ x : ℝ, entry a i j = (x : EReal) := by
  unfold entry
  split
  · next h => exact Cert.Pre_finite_qk.real_of a hp _ _ hj
  · exact ⟨0, rfl⟩

/-- A score of the reference is the score of the kernel's points. -/
theorem ref_score (a : FVec Ideal S16384x3072 .bf16) (b : Fin 2) (h g : Fin 4) (i j : Fin 8192) :
    SC a (ix5 b h g i j) = score a b.val h.val g.val i.val j.val := by
  rw [Cert.AttnRefIdeal.Term.sc_at]
  unfold score
  refine Finset.sum_congr rfl fun d _ => congrArg₂ (· * ·) (entry_eq a _ _ _ rfl ?_) (entry_eq a _ _ _ rfl ?_)
  · show 2048 + (h.val * 128 + d.val) = _
    ring
  · show h.val * 512 + g.val * 128 + d.val = _
    ring

/-- An entry of the reference, from the running numbers after the eighth block of keys. -/
theorem ref_of_inv (a : FVec Ideal S16384x3072 .bf16) (b : Fin 2) (h g : Fin 4) (i : Fin 8192) (d : ℕ) (hd : d < 128)
    (σ : ℕ → Fin 1024 → ℝ) (hσ : ∀ j k, score a b.val h.val g.val i.val (j * 1024 + k.val) = (σ j k : EReal)) (M L A : EReal)
    (inv : Cert.Softmax.Inv 8 σ (fun j k => value a b.val h.val d (j * 1024 + k.val)) M L A) :
    Ideal.div A L = ∑ j : Fin 8192, a (ix2 ⟨b.val * 8192 + j.val, by omega⟩ ⟨2560 + (h.val * 128 + d), by omega⟩)
      * Ideal.div (EX a (ix5 b h g i j)) (SM a (ix4 b h g i)) := by
  refine (Cert.Softmax.Inv.quotient inv (T := 8192) rfl (by norm_num) (fun j => SC a (ix5 b h g i j))
    (fun j => a (ix2 ⟨b.val * 8192 + j.val, by omega⟩ ⟨2560 + (h.val * 128 + d), by omega⟩)) ?_ ?_ (mx_bot a b h g i)
    ((sm_at a b h g i).trans (Finset.sum_congr rfl fun j _ => ex_at a b h g i j))).trans (Finset.sum_congr rfl fun j _ => ?_)
  · intro j k l hl
    show SC a (ix5 b h g i l) = _
    rw [ref_score, hl, hσ]
  · intro j k l hl
    refine entry_eq a _ _ _ ?_ ?_
    · show b.val * 8192 + l.val = _
      rw [hl]
    · show 2560 + (h.val * 128 + d) = _
      rw [Nat.add_assoc]
  · rw [ex_at]

/-- What the last point of a run stores at block position `y` is the reference at the place `y` sits at. -/
theorem point (c : Dev nD) (hp : Cert.Pre_finite_qk.fn (F := Ideal) (m ((c : Thread nD τ).loc main_arg0)) = fun _ => 1#1)
    (t : Fin cfg0.N) (h1 : t.val % 8 = 7) (y : S512x512.Idx) (z : S16384x2048.Idx)
    (p0 : (z 0).val = (t.val / 8 / 64 * 16 + t.val / 8 % 16) * 512 + (y 0).val) (p1 : (z 1).val = t.val / 8 / 16 % 4 * 512 + (y 1).val) :
    (outsAt0 m c t.val t.isLt).1 y = REF (m ((c : Thread nD τ).loc main_arg0)) z := by
  have h0 : ¬t.val % 8 = 0 := by omega
  have hN : t.val < 1024 := t.isLt
  have hy0 : (y 0).val < 512 := (y 0).isLt
  have hy1 : (y 1).val < 512 := (y 1).isLt
  have hg : (y 1).val / 128 < 4 := by omega
  have hz0 : (z 0).val < 16384 := (z 0).isLt
  have hz1 : (z 1).val < 2048 := (z 1).isLt
  rw [out_C m c t h0 h1, quot, ← sum_S m c t h0 _ hg, ← acc_S m c t h0, ref_at _ z hz0 hz1]
  choose σ hσ using fun (j : ℕ) (k : Fin 1024) =>
    score_real _ (entry_real _ hp) (t.val / 8 / 64) (t.val / 8 / 16 % 4) ((y 1).val / 128) (t.val / 8 % 16 * 512 + (y 0).val) (j * 1024 + k.val)
      (Nat.mod_lt _ (by decide)) hg
  have e0 : (z 0).val / 8192 = t.val / 8 / 64 := by omega
  have e1 : (z 1).val / 512 = t.val / 8 / 16 % 4 := by omega
  have e2 : (z 1).val % 128 = (y 1).val % 128 := by omega
  have e3 : (z 1).val / 128 % 4 = (y 1).val / 128 := by omega
  have e4 : (z 0).val % 8192 = t.val / 8 % 16 * 512 + (y 0).val := by omega
  refine ref_of_inv (m ((c : Thread nD τ).loc main_arg0)) ⟨(z 0).val / 8192, by omega⟩ ⟨(z 1).val / 512, by omega⟩ ⟨(z 1).val / 128 % 4, by omega⟩
    ⟨(z 0).val % 8192, by omega⟩ ((z 1).val % 128) (Nat.mod_lt _ (by decide)) σ (fun j k => ?_)
    ((outsAt0 m c t.val t.isLt).2.1 (ix2 ⟨(y 1).val / 128, lt_trans hg (by decide)⟩ (y 0))) _ _ ?_
  · refine Eq.trans ?_ (hσ j k)
    dsimp only
    rw [e0, e1, e3, e4]
  · have inv := run_inv m c σ (t.val / 8) ((y 1).val / 128) hg (y 0) ⟨(y 1).val % 128, Nat.mod_lt _ (by decide)⟩ hσ 7 t (by omega) (by decide)
    rw [← e0, ← e1] at inv
    rw [e2]
    exact inv

/-- Only the last point of a run of eight writes its block back. -/
theorem flush_last : ∀ t : Fin cfg0.N, (cfg0.win 3).flush t = true → t.val % 8 = 7 :=
  (by decide +kernel : ∀ t : Fin grid0.N, _)

/-- So the array left by the call is the array of the reference. -/
theorem final (c : Dev nD) (hp : Cert.Pre_finite_qk.fn (F := Ideal) (m ((c : Thread nD τ).loc main_arg0)) = fun _ => 1#1) :
    (dats m 0 c).arrAt 3 (cfgs 0).N = REF (m ((c : Thread nD τ).loc main_arg0)) := by
  refine (dats m 0 c).arrAt_eq_of_covers 3 _ (by decide +kernel) fun t hf y => ?_
  blk_simp
  rw [after0_3]
  exact point m c hp t (flush_last t hf) y _ (place_o t y).1 (place_o t y).2

end Cert.AttnIdeal.Call

end
-- ==== Proof.Up.lean ====
module

public import proofs.«01_k».proof.Proof.Gen.UpIdeal.Frame
public import proofs.«01_k».proof.Proof.Gen.UpRefIdeal.Run
public import Idealize.ShloMosaic.Lib.Pipeline.ValueKit
public import Idealize.ShloMosaic.Lib.Pointwise
public import Idealize.ShloMosaic.Lib.Claim

@[expose] public section

set_option maxRecDepth 16384

/-!
# The two up projections of the feed-forward part

One call reads one block of rows of `x1` and one block of columns from each half of `w_up`, and stores two products. `final3` and
`final4` say that the two arrays are the two halves of the reference's one wide product.
-/

noncomputable section

open Idealize.ShloMosaic Idealize.ShloMosaic.TcCoe Idealize.SL.Sem
open Idealize.ShloMosaic.Pipeline (Dat)

namespace Cert.UpRefIdeal.Term

open Cert.UpRefIdeal Cert.UpRefIdeal.Gen

/-- The array the reference returns, as a term over its arguments. -/
abbrev REF0 (a0 : FVec Ideal S16384x4096 .bf16) (a1 : FVec Ideal S4096x22016 .f32) : FVec Ideal S16384x11008 .bf16 :=
  truncf .bf16 (extractStridedSlice S16384x11008 ![0, 0] (Host.dotGeneral dot_S16384x4096_S4096x22016_S16384x22016_1_0_0_1_n_n none (extf .f32 a0 bitsLt_bf16_f32) a1) slices_S16384x22016_S16384x11008_0_0) bitsLt_bf16_f32

/-- The array the reference returns, as a term over its arguments. -/
abbrev REF1 (a0 : FVec Ideal S16384x4096 .bf16) (a1 : FVec Ideal S4096x22016 .f32) : FVec Ideal S16384x11008 .bf16 :=
  truncf .bf16 (extractStridedSlice S16384x11008 ![0, 11008] (Host.dotGeneral dot_S16384x4096_S4096x22016_S16384x22016_1_0_0_1_n_n none (extf .f32 a0 bitsLt_bf16_f32) a1) slices_S16384x22016_S16384x11008_0_11008) bitsLt_bf16_f32

end Cert.UpRefIdeal.Term

namespace Cert.UpIdeal.Call

open Cert.UpIdeal Cert.UpIdeal.Gen Cert.UpRefIdeal.Term

variable (m : (ℓ : Loc nD τ sig) → Buf (Elt Ideal) ℓ)

/-- The block each window stages at grid point `t`. -/
theorem idx_val : ∀ t : Fin cfg0.N, win0_0.index t = ![t.val / 43, 0]
    ∧ win0_1.index t = ![0, t.val % 43]
    ∧ win0_2.index t = ![0, (t.val % 43) + 43]
    ∧ win0_3.index t = ![t.val / 43, t.val % 43]
    ∧ win0_4.index t = ![t.val / 43, t.val % 43] :=
  (by decide +kernel : ∀ t : Fin grid0.N, _)

/-- What grid point `t` stores at block position `y` of output window 3 is the reference at the place `y` sits at. -/
theorem point3 (c : Dev nD) (t : Fin cfg0.N) (y) :
    k0_pay1 (iblk m c 0 t) (iblk m c 1 t) y
      = REF0 (m ((c : Thread nD τ).loc main_arg0)) (m ((c : Thread nD τ).loc main_arg1))
          (((cfg0.win 3).blk t).view.emb y) := by
  pointwise [k0_pay1, REF0]
  blk_point [iblk, V, idx_val t]

/-- So the array left in output window 3 is the array of the reference. -/
theorem final3 (c : Dev nD) : (dats m 0 c).arrAt 3 (cfgs 0).N
    = REF0 (m ((c : Thread nD τ).loc main_arg0)) (m ((c : Thread nD τ).loc main_arg1)) := by
  refine (dats m 0 c).arrAt_eq_of_covers 3 _ (by decide +kernel) fun t hf y => ?_
  blk_simp
  rw [after0_3]
  frame_out
  exact point3 m c t y

/-- What grid point `t` stores at block position `y` of output window 4 is the reference at the place `y` sits at. -/
theorem point4 (c : Dev nD) (t : Fin cfg0.N) (y) :
    k0_pay2 (iblk m c 0 t) (iblk m c 2 t) y
      = REF1 (m ((c : Thread nD τ).loc main_arg0)) (m ((c : Thread nD τ).loc main_arg1))
          (((cfg0.win 4).blk t).view.emb y) := by
  pointwise [k0_pay2, REF1]
  blk_point [iblk, V, idx_val t]

/-- So the array left in output window 4 is the array of the reference. -/
theorem final4 (c : Dev nD) : (dats m 0 c).arrAt 4 (cfgs 0).N
    = REF1 (m ((c : Thread nD τ).loc main_arg0)) (m ((c : Thread nD τ).loc main_arg1)) := by
  refine (dats m 0 c).arrAt_eq_of_covers 4 _ (by decide +kernel) fun t hf y => ?_
  blk_simp
  rw [after0_4]
  frame_out
  exact point4 m c t y

end Cert.UpIdeal.Call

end
-- ==== Proof.Down.lean ====
module

public import proofs.«01_k».proof.Proof.Gen.DownIdeal.Frame
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

/-!
# The down projection of the feed-forward part with its scaled residual

The call `mm_res` tiles `act · w_down + α · x1` into blocks of rows and columns; each grid point contracts over the whole inner
dimension. `final` says that the array it leaves is the reference's product plus residual.
-/

noncomputable section

open Idealize.ShloMosaic Idealize.ShloMosaic.TcCoe Idealize.SL.Sem
open Idealize.ShloMosaic.Pipeline (Dat)

namespace Cert.DownRefIdeal.Term

open Cert.DownRefIdeal Cert.DownRefIdeal.Gen

/-- The array the reference returns, as a term over its arguments. -/
abbrev REF (a0 : FVec Ideal S16384x11008 .bf16) (a1 : FVec Ideal S11008x4096 .f32) (a2 : FVec Ideal S16384x4096 .f32) : FVec Ideal S16384x4096 .f32 :=
  addf (mulf (broadcastInDim S16384x4096 ![] bcast_S_S16384x4096 (constant S_ .f32 0x3F9837F0#32)) a2) (Host.dotGeneral dot_S16384x11008_S11008x4096_S16384x4096_1_0_0_1_n_n none (extf .f32 a0 bitsLt_bf16_f32) a1)

end Cert.DownRefIdeal.Term

namespace Cert.DownIdeal.Call

open Cert.DownIdeal Cert.DownIdeal.Gen Cert.DownRefIdeal.Term

variable (m : (ℓ : Loc nD τ sig) → Buf (Elt Ideal) ℓ)

/-- The block each window stages at grid point `t`. -/
theorem idx_val : ∀ t : Fin cfg0.N, win0_0.index t = ![t.val / 8, 0]
    ∧ win0_1.index t = ![0, t.val % 8]
    ∧ win0_2.index t = ![t.val / 8, t.val % 8]
    ∧ win0_3.index t = ![t.val / 8, t.val % 8] :=
  (by decide +kernel : ∀ t : Fin grid0.N, _)

/-- What grid point `t` stores at block position `y` is the reference at the place `y` sits at. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc
        main_arg2)) (((cfg0.win 3).blk t).view.emb y) := by
  pointwise [k0_pay1, REF]
  blk_point [iblk, V, idx_val t]

/-- So the array left by the call is the array of the reference. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.DownIdeal.Call

end
-- ==== Proof.Out.lean ====
module

public import proofs.«01_k».proof.Proof.Gen.OutIdeal.Frame
public import proofs.«01_k».proof.Proof.Gen.OutRefIdeal.Run
public import Idealize.ShloMosaic.Lib.Pipeline.ValueKit
public import Idealize.ShloMosaic.Lib.Pointwise
public import Idealize.ShloMosaic.Lib.Claim

@[expose] public section

set_option maxRecDepth 16384

/-!
# The output projection of the mixed branches with its scaled residual

The call tiles `mixed · w_o + α · x` into blocks of rows and columns; each grid point contracts over the whole inner dimension.
`final` says that the array it leaves is the reference's product plus residual.
-/

noncomputable section

open Idealize.ShloMosaic Idealize.ShloMosaic.TcCoe Idealize.SL.Sem
open Idealize.ShloMosaic.Pipeline (Dat)

namespace Cert.OutRefIdeal.Term

open Cert.OutRefIdeal Cert.OutRefIdeal.Gen

/-- The array the reference returns, as a term over its arguments. -/
abbrev REF (a0 : FVec Ideal S16384x4096 .bf16) (a1 : FVec Ideal S4096x4096 .f32) (a2 : FVec Ideal S16384x4096 .f32) : FVec Ideal S16384x4096 .f32 :=
  addf (mulf (broadcastInDim S16384x4096 ![] bcast_S_S16384x4096 (constant S_ .f32 0x3F9837F0#32)) a2) (Host.dotGeneral dot_S16384x4096_S4096x4096_S16384x4096_1_0_0_1_n_n none (extf .f32 a0 bitsLt_bf16_f32) a1)

end Cert.OutRefIdeal.Term

namespace Cert.OutIdeal.Call

open Cert.OutIdeal Cert.OutIdeal.Gen Cert.OutRefIdeal.Term

variable (m : (ℓ : Loc nD τ sig) → Buf (Elt Ideal) ℓ)

/-- The block each window stages at grid point `t`. -/
theorem idx_val : ∀ t : Fin cfg0.N, win0_0.index t = ![t.val / 8, 0]
    ∧ win0_1.index t = ![0, t.val % 8]
    ∧ win0_2.index t = ![t.val / 8, t.val % 8]
    ∧ win0_3.index t = ![t.val / 8, t.val % 8] :=
  (by decide +kernel : ∀ t : Fin grid0.N, _)

/-- What grid point `t` stores at block position `y` is the reference at the place `y` sits at. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc
        main_arg2)) (((cfg0.win 3).blk t).view.emb y) := by
  pointwise [k0_pay1, REF]
  blk_point [iblk, V, idx_val t]

/-- So the array left by the call is the array of the reference. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.OutIdeal.Call

end
-- ==== Proof.Mix.lean ====
module

public import proofs.«01_k».proof.Proof.Gen.MixIdeal.Frame
public import proofs.«01_k».proof.Proof.Gen.MixRefIdeal.Run
public import Idealize.ShloMosaic.Lib.Pipeline.ValueKit
public import Idealize.ShloMosaic.Lib.Pointwise
public import Idealize.ShloMosaic.Lib.Claim

@[expose] public section

set_option maxRecDepth 16384

/-!
# The gated mix of the attention and the recurrence branch

The call forms two projections (of the attention branch and of the recurrence branch) and two gates, logistic functions of a
projection of `x` plus a bias, and adds the gated projections. The lemmas read the two halves (`first_at`, `gate_at`,
`store_at`) and the reference (`ref_at`) at one index; `final` says that the array is the reference's.
-/

noncomputable section

open Idealize.ShloMosaic Idealize.ShloMosaic.TcCoe Idealize.SL.Sem
open Idealize.ShloMosaic.Pipeline (Dat)

namespace Cert.MixRefIdeal.Term

open Cert.MixRefIdeal Cert.MixRefIdeal.Gen

/-- The array the reference returns, as a term over its arguments. -/
abbrev REF (a0 : FVec Ideal S16384x4096 .f32) (a1 : FVec Ideal S16384x2048 .bf16) (a2 : FVec Ideal S16384x2048 .bf16) (a3 : FVec Ideal S4096x8192 .f32) (a4 : FVec Ideal S8192 .f32) (a5 : FVec Ideal S2048x4096 .f32) (a6 : FVec Ideal S2048x4096 .f32) : FVec Ideal S16384x4096 .bf16 :=
  truncf .bf16 (addf (mulf (extractStridedSlice S16384x4096 ![0, 0] (Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (Host.dotGeneral dot_S16384x4096_S4096x8192_S16384x8192_1_0_0_1_n_n none a0 a3) (broadcastInDim S16384x8192 ![0, 1] bcast_S1x8192_S16384x8192_0_1 (broadcastInDim S1x8192 ![1] bcast_S8192_S1x8192_1 a4))))))) slices_S16384x8192_S16384x4096_0_0) (Host.dotGeneral dot_S16384x2048_S2048x4096_S16384x4096_1_0_0_1_n_n none (extf .f32 a1 bitsLt_bf16_f32) a5)) (mulf (extractStridedSlice S16384x4096 ![0, 4096] (Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (Host.dotGeneral dot_S16384x4096_S4096x8192_S16384x8192_1_0_0_1_n_n none a0 a3) (broadcastInDim S16384x8192 ![0, 1] bcast_S1x8192_S16384x8192_0_1 (broadcastInDim S1x8192 ![1] bcast_S8192_S1x8192_1 a4))))))) slices_S16384x8192_S16384x4096_0_4096) (Host.dotGeneral dot_S16384x2048_S2048x4096_S16384x4096_1_0_0_1_n_n none (extf .f32 a2 bitsLt_bf16_f32) a6))) bitsLt_bf16_f32

end Cert.MixRefIdeal.Term

namespace Cert.MixIdeal.Call

open Cert.MixIdeal Cert.MixIdeal.Gen Cert.MixRefIdeal.Term

variable (m : (ℓ : Loc nD τ sig) → Buf (Elt Ideal) ℓ)

/-- The block each window stages at grid point `t`. -/
theorem idx_val : ∀ t : Fin cfg0.N, win0_0.index t = ![t.val / 8, 0]
    ∧ win0_1.index t = ![t.val / 8, 0]
    ∧ win0_2.index t = ![t.val / 8, 0]
    ∧ win0_3.index t = ![0, t.val % 8]
    ∧ win0_4.index t = ![0, (t.val % 8) + 8]
    ∧ win0_5.index t = ![0, t.val % 8]
    ∧ win0_6.index t = ![0, t.val % 8]
    ∧ win0_7.index t = ![0, t.val % 8]
    ∧ win0_8.index t = ![0, (t.val % 8) + 8]
    ∧ win0_9.index t = ![t.val / 8, t.val % 8] :=
  (by decide +kernel : ∀ t : Fin grid0.N, _)

/-- The first gate of the kernel's block, times its projection. -/
theorem first_at (x : Vec Ideal S512x4096 .bf16) (w : Vec Ideal S4096x512 .bf16) (b : Vec Ideal S1x512 .f32)
    (p : Vec Ideal S512x2048 .bf16) (q : Vec Ideal S2048x512 .bf16) (y : S512x512.Idx) :
    k0_pay4 (F := Ideal) x w b p q y
      = Ideal.div 1 (1 + Ideal.exp (-(∑ k : Fin 4096, x (ix2 (y 0) k) * w (ix2 k (y 1)) + b (ix2 0 (y 1)))))
        * ∑ k : Fin 2048, p (ix2 (y 0) k) * q (ix2 k (y 1)) := by
  pointwise [k0_pay2, k0_pay4]
  simp only [zero_sub]

/-- The second gate of the kernel's block. -/
theorem gate_at (x : Vec Ideal S512x4096 .bf16) (w : Vec Ideal S4096x512 .bf16) (b : Vec Ideal S1x512 .f32)
    (y : S512x512.Idx) :
    k0_pay3 (F := Ideal) x w b y
      = Ideal.div 1 (1 + Ideal.exp (-(∑ k : Fin 4096, x (ix2 (y 0) k) * w (ix2 k (y 1)) + b (ix2 0 (y 1))))) := by
  pointwise [k0_pay2, k0_pay3]
  simp only [zero_sub]

/-- The block the kernel stores: the two gated projections added. -/
theorem store_at (u v : FVec Ideal S512x512 .f32) (p : Vec Ideal S512x2048 .bf16) (q : Vec Ideal S2048x512 .bf16)
    (y : S512x512.Idx) :
    k0_pay1 (F := Ideal) u v p q y = v y + u y * ∑ k : Fin 2048, p (ix2 (y 0) k) * q (ix2 k (y 1)) := by
  pointwise [k0_pay1]

/-- A column of the first half of the gate's weights. -/
abbrev lo (l : Fin 4096) : Fin 8192 := ⟨(l : ℕ), by omega⟩

/-- A column of the second half of the gate's weights. -/
abbrev hi (l : Fin 4096) : Fin 8192 := ⟨4096 + (l : ℕ), by omega⟩

/-- The reference, entry by entry: the two gated projections added. -/
theorem ref_at (a0 : FVec Ideal Cert.MixRefIdeal.S16384x4096 .f32) (a1 a2 : FVec Ideal Cert.MixRefIdeal.S16384x2048 .bf16)
    (a3 : FVec Ideal Cert.MixRefIdeal.S4096x8192 .f32) (a4 : FVec Ideal Cert.MixRefIdeal.S8192 .f32)
    (a5 a6 : FVec Ideal Cert.MixRefIdeal.S2048x4096 .f32) (i : Cert.MixRefIdeal.S16384x4096.Idx) :
    REF a0 a1 a2 a3 a4 a5 a6 i
      = Ideal.div 1 (1 + Ideal.exp (-(∑ k : Fin 4096, a0 (ix2 (i 0) k) * a3 (ix2 k (lo (i 1))) + a4 (ix1 (lo (i 1))))))
          * ∑ k : Fin 2048, a1 (ix2 (i 0) k) * a5 (ix2 k (i 1))
        + Ideal.div 1 (1 + Ideal.exp (-(∑ k : Fin 4096, a0 (ix2 (i 0) k) * a3 (ix2 k (hi (i 1))) + a4 (ix1 (hi (i 1))))))
          * ∑ k : Fin 2048, a2 (ix2 (i 0) k) * a6 (ix2 k (i 1)) := by
  pointwise [REF]

/-- What grid point `t` stores at block position `y` is the reference at the place `y` sits at. -/
theorem point (c : Dev nD) (t : Fin cfg0.N) (y) :
    k0_pay1 (k0_pay3 (iblk m c 0 t) (iblk m c 4 t) (iblk m c 8 t)) (k0_pay4 (iblk m c 0 t) (iblk m c 3 t) (iblk m c 7
      t) (iblk m c 1 t) (iblk m c 5 t)) (iblk m c 2 t) (iblk m c 6 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (((cfg0.win 9).blk t).view.emb y) := by
  rw [store_at, first_at, gate_at]
  refine Eq.trans ?_ (ref_at ..).symm
  blk_point [iblk, V, idx_val t]
  all_goals (blk_simp [idx_val t]; try omega)

/-- So the array left by the call is the array of the reference. -/
theorem final (c : Dev nD) : (dats m 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp; rw [after0_9]; frame_out
  exact point m c t y

end Cert.MixIdeal.Call

end
-- ==== Proof.Norm.lean ====
module

public import proofs.«01_k».proof.Proof.Gen.NormIdeal.Frame
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

/-!
# The layer normalisation

The call normalises whole rows, block of rows by block of rows, and stores the result twice (in f32 and in bf16). `final3` and
`final4` say that both arrays are the reference's.
-/

noncomputable section

open Idealize.ShloMosaic Idealize.ShloMosaic.TcCoe Idealize.SL.Sem
open Idealize.ShloMosaic.Pipeline (Dat)

namespace Cert.NormRefIdeal.Term

open Cert.NormRefIdeal Cert.NormRefIdeal.Gen

/-- The array the reference returns, as a term over its arguments. -/
abbrev REF0 (a0 : FVec Ideal S16384x4096 .f32) (a1 : FVec Ideal S4096 .f32) (a2 : FVec Ideal S4096 .f32) : FVec Ideal S16384x4096 .f32 :=
  addf (mulf (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 a1))) (broadcastInDim S16384x4096 ![0, 1] bcast_S1x4096_S16384x4096_0_1 (broadcastInDim S1x4096 ![1] bcast_S4096_S1x4096_1 a2))

/-- The array the reference returns, as a term over its arguments. -/
abbrev REF1 (a0 : FVec Ideal S16384x4096 .f32) (a1 : FVec Ideal S4096 .f32) (a2 : FVec Ideal S4096 .f32) : FVec Ideal S16384x4096 .bf16 :=
  truncf .bf16 (addf (mulf (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 a1))) (broadcastInDim S16384x4096 ![0, 1] bcast_S1x4096_S16384x4096_0_1 (broadcastInDim S1x4096 ![1] bcast_S4096_S1x4096_1 a2))) bitsLt_bf16_f32

end Cert.NormRefIdeal.Term

namespace Cert.NormIdeal.Call

open Cert.NormIdeal Cert.NormIdeal.Gen Cert.NormRefIdeal.Term

variable (m : (ℓ : Loc nD τ sig) → Buf (Elt Ideal) ℓ)

/-- The block each window stages at grid point `t`. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- What grid point `t` stores at block position `y` of output window 3 is the reference at the place `y` sits at. -/
theorem point3 (c : Dev nD) (t : Fin cfg0.N) (y) :
    k0_pay1 (iblk m c 0 t) (iblk m c 1 t) (iblk m c 2 t) y
      = REF0 (m ((c : Thread nD τ).loc main_arg0)) (m ((c : Thread nD τ).loc main_arg1)) (m ((c : Thread nD τ).loc main_arg2))
          (((cfg0.win 3).blk t).view.emb y) := by
  pointwise [k0_pay1, REF0]
  blk_point [iblk, V, idx_val t]

/-- So the array left in output window 3 is the array of the reference. -/
theorem final3 (c : Dev nD) : (dats m 0 c).arrAt 3 (cfgs 0).N
    = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point3 m c t y

/-- What grid point `t` stores at block position `y` of output window 4 is the reference at the place `y` sits at. -/
theorem point4 (c : Dev nD) (t : Fin cfg0.N) (y) :
    k0_pay2 (iblk m c 0 t) (iblk m c 1 t) (iblk m c 2 t) y
      = REF1 (m ((c : Thread nD τ).loc main_arg0)) (m ((c : Thread nD τ).loc main_arg1)) (m ((c : Thread nD τ).loc main_arg2))
          (((cfg0.win 4).blk t).view.emb y) := by
  pointwise [k0_pay1, k0_pay2, REF1]
  blk_point [iblk, V, idx_val t]

/-- So the array left in output window 4 is the array of the reference. -/
theorem final4 (c : Dev nD) : (dats m 0 c).arrAt 4 (cfgs 0).N
    = REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  exact point4 m c t y

end Cert.NormIdeal.Call

end
-- ==== Proof.Ple.lean ====
module

public import proofs.«01_k».proof.Proof.Gen.PleIdeal.Frame
public import proofs.«01_k».proof.Proof.Gen.PleRefIdeal.Run
public import Idealize.ShloMosaic.Lib.Pipeline.ValueKit
public import Idealize.ShloMosaic.Lib.Pointwise
public import Idealize.ShloMosaic.Lib.Claim

@[expose] public section

set_option maxRecDepth 16384

/-!
# The gated per-layer embedding

The call adds to `x2` the projected embedding times a gate, the logistic function of a projection of `x2`. `final` says that the array
is the reference's.
-/

noncomputable section

open Idealize.ShloMosaic Idealize.ShloMosaic.TcCoe Idealize.SL.Sem
open Idealize.ShloMosaic.Pipeline (Dat)

namespace Cert.PleRefIdeal.Term

open Cert.PleRefIdeal Cert.PleRefIdeal.Gen

/-- The array the reference returns, as a term over its arguments. -/
abbrev REF (a0 : FVec Ideal S16384x4096 .f32) (a1 : FVec Ideal S16384x4096 .bf16) (a2 : FVec Ideal S16384x256 .f32) (a3 : FVec Ideal S4096x4096 .f32) (a4 : FVec Ideal S256x4096 .f32) : FVec Ideal S16384x4096 .f32 :=
  addf a0 (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (Host.dotGeneral dot_S16384x4096_S4096x4096_S16384x4096_1_0_0_1_n_n none (extf .f32 a1 bitsLt_bf16_f32) a3))))) (Host.dotGeneral dot_S16384x256_S256x4096_S16384x4096_1_0_0_1_n_n none a2 a4))

end Cert.PleRefIdeal.Term

namespace Cert.PleIdeal.Call

open Cert.PleIdeal Cert.PleIdeal.Gen Cert.PleRefIdeal.Term

variable (m : (ℓ : Loc nD τ sig) → Buf (Elt Ideal) ℓ)

/-- The block each window stages at grid point `t`. -/
theorem idx_val : ∀ t : Fin cfg0.N, win0_0.index t = ![t.val / 8, 0]
    ∧ win0_1.index t = ![t.val / 8, 0]
    ∧ win0_2.index t = ![0, t.val % 8]
    ∧ win0_3.index t = ![0, t.val % 8]
    ∧ win0_4.index t = ![t.val / 8, t.val % 8]
    ∧ win0_5.index t = ![t.val / 8, t.val % 8] :=
  (by decide +kernel : ∀ t : Fin grid0.N, _)

/-- What grid point `t` stores at block position `y` is the reference at the place `y` sits at. -/
theorem point (c : Dev nD) (t : Fin cfg0.N) (y) :
    k0_pay1 (iblk m c 0 t) (iblk m c 2 t) (iblk m c 4 t) (iblk m c 1 t) (iblk m c 3 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  pointwise [k0_pay1, REF]
  simp only [zero_sub]
  blk_point [iblk, V, idx_val t]

/-- So the array left by the call is the array of the reference. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.PleIdeal.Call

end
-- ==== Proof.HgQ.lean ====
module

public import proofs.«01_k».proof.Proof.Gen.HgQIdeal.Frame
public import proofs.«01_k».proof.Proof.Gen.HgQRefIdeal.Run
public import Idealize.ShloMosaic.Lib.Pipeline.ValueKit
public import Idealize.ShloMosaic.Lib.Pointwise
public import Idealize.ShloMosaic.Lib.Claim

@[expose] public section

set_option maxRecDepth 16384

/-!
# The query projection of the recurrence, with its `silu`

The call reads the columns of `w_in` that belong to the queries by an offset of its block index. `final` says that the array is the
reference's: the slice of the weights, the product, and `v · logistic v`.
-/

noncomputable section

open Idealize.ShloMosaic Idealize.ShloMosaic.TcCoe Idealize.SL.Sem
open Idealize.ShloMosaic.Pipeline (Dat)

namespace Cert.HgQRefIdeal.Term

open Cert.HgQRefIdeal Cert.HgQRefIdeal.Gen

/-- The array the reference returns, as a term over its arguments. -/
abbrev REF (a0 : FVec Ideal S16384x4096 .f32) (a1 : FVec Ideal S4096x13312 .f32) : FVec Ideal S16384x2048 .bf16 :=
  truncf .bf16 (mulf (Host.dotGeneral dot_S16384x4096_S4096x2048_S16384x2048_1_0_0_1_n_n none a0 (extractStridedSlice S4096x2048 ![0, 3072] a1 slices_S4096x13312_S4096x2048_0_3072)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x4096_S4096x2048_S16384x2048_1_0_0_1_n_n none a0 (extractStridedSlice S4096x2048 ![0, 3072] a1 slices_S4096x13312_S4096x2048_0_3072))))))) bitsLt_bf16_f32

end Cert.HgQRefIdeal.Term

namespace Cert.HgQIdeal.Call

open Cert.HgQIdeal Cert.HgQIdeal.Gen Cert.HgQRefIdeal.Term

variable (m : (ℓ : Loc nD τ sig) → Buf (Elt Ideal) ℓ)

/-- The block each window stages at grid point `t`. -/
theorem idx_val : ∀ t : Fin cfg0.N, win0_0.index t = ![t.val / 4, 0]
    ∧ win0_1.index t = ![0, (t.val % 4) + 6]
    ∧ win0_2.index t = ![t.val / 4, t.val % 4] :=
  (by decide +kernel : ∀ t : Fin grid0.N, _)

/-- What grid point `t` stores at block position `y` is the reference at the place `y` sits at. -/
theorem point (c : Dev nD) (t : Fin cfg0.N) (y) :
    k0_pay2 (iblk m c 0 t) (iblk m c 1 t) y
      = REF (m ((c : Thread nD τ).loc main_arg0)) (m ((c : Thread nD τ).loc main_arg1)) (((cfg0.win 2).blk t).view.emb y) := by
  pointwise [k0_pay1, k0_pay2, REF]
  simp only [zero_sub]
  blk_point [iblk, V, idx_val t]

/-- So the array left by the call is the array of the reference. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  exact point m c t y

end Cert.HgQIdeal.Call

end
-- ==== Proof.HgZ.lean ====
module

public import proofs.«01_k».proof.Proof.Gen.HgZIdeal.Frame
public import proofs.«01_k».proof.Proof.Gen.HgZRefIdeal.Run
public import Idealize.ShloMosaic.Lib.Pipeline.ValueKit
public import Idealize.ShloMosaic.Lib.Pointwise
public import Idealize.ShloMosaic.Lib.Claim

@[expose] public section

set_option maxRecDepth 16384

/-!
# The forget-gate projection of the recurrence

The call reads the columns of `w_in` that belong to the forget gates of both directions. `final` says that the array is the
reference's product with that slice of the weights.
-/

noncomputable section

open Idealize.ShloMosaic Idealize.ShloMosaic.TcCoe Idealize.SL.Sem
open Idealize.ShloMosaic.Pipeline (Dat)

namespace Cert.HgZRefIdeal.Term

open Cert.HgZRefIdeal Cert.HgZRefIdeal.Gen

/-- The array the reference returns, as a term over its arguments. -/
abbrev REF (a0 : FVec Ideal S16384x4096 .f32) (a1 : FVec Ideal S4096x13312 .f32) : FVec Ideal S16384x4096 .f32 :=
  Host.dotGeneral dot_S16384x4096_S4096x4096_S16384x4096_1_0_0_1_n_n none a0 (extractStridedSlice S4096x4096 ![0, 5120] a1 slices_S4096x13312_S4096x4096_0_5120)

end Cert.HgZRefIdeal.Term

namespace Cert.HgZIdeal.Call

open Cert.HgZIdeal Cert.HgZIdeal.Gen Cert.HgZRefIdeal.Term

variable (m : (ℓ : Loc nD τ sig) → Buf (Elt Ideal) ℓ)

/-- The block each window stages at grid point `t`. -/
theorem idx_val : ∀ t : Fin cfg0.N, win0_0.index t = ![t.val / 8, 0]
    ∧ win0_1.index t = ![0, (t.val % 8) + 10]
    ∧ win0_2.index t = ![t.val / 8, t.val % 8] :=
  (by decide +kernel : ∀ t : Fin grid0.N, _)

/-- What grid point `t` stores at block position `y` is the reference at the place `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx_val t]

/-- So the array left by the call is the array of the reference. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  exact point m c t y

end Cert.HgZIdeal.Call

end
-- ==== Proof.HgVG.lean ====
module

public import proofs.«01_k».proof.Proof.Gen.HgVGIdeal.Frame
public import proofs.«01_k».proof.Proof.Gen.HgVGRefIdeal.Run
public import Idealize.ShloMosaic.Lib.Pipeline.ValueKit
public import Idealize.ShloMosaic.Lib.Pointwise
public import Idealize.ShloMosaic.Lib.Claim

@[expose] public section

set_option maxRecDepth 16384

/-!
# The value and output-gate projection of the recurrence

The call applies `silu` to the column blocks that belong to the output gate and stores the others as they are; the reference joins the
two halves. `final` says that the arrays agree.
-/

noncomputable section

open Idealize.ShloMosaic Idealize.ShloMosaic.TcCoe Idealize.SL.Sem
open Idealize.ShloMosaic.Pipeline (Dat)

namespace Cert.HgVGRefIdeal.Term

open Cert.HgVGRefIdeal Cert.HgVGRefIdeal.Gen

/-- The array the reference returns, as a term over its arguments. -/
abbrev REF (a0 : FVec Ideal S16384x4096 .f32) (a1 : FVec Ideal S4096x13312 .f32) : FVec Ideal S16384x4096 .bf16 :=
  truncf .bf16 (concatenate S16384x4096 1 [⟨S16384x2048, (extractStridedSlice S16384x2048 ![0, 0] (Host.dotGeneral dot_S16384x4096_S4096x4096_S16384x4096_1_0_0_1_n_n none a0 (extractStridedSlice S4096x4096 ![0, 9216] a1 slices_S4096x13312_S4096x4096_0_9216)) slices_S16384x4096_S16384x2048_0_0)⟩, ⟨S16384x2048, (mulf (extractStridedSlice S16384x2048 ![0, 2048] (Host.dotGeneral dot_S16384x4096_S4096x4096_S16384x4096_1_0_0_1_n_n none a0 (extractStridedSlice S4096x4096 ![0, 9216] a1 slices_S4096x13312_S4096x4096_0_9216)) slices_S16384x4096_S16384x2048_0_2048) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] (Host.dotGeneral dot_S16384x4096_S4096x4096_S16384x4096_1_0_0_1_n_n none a0 (extractStridedSlice S4096x4096 ![0, 9216] a1 slices_S4096x13312_S4096x4096_0_9216)) slices_S16384x4096_S16384x2048_0_2048))))))⟩] concatenates_S16384x2048_S16384x2048_S16384x4096_d1) bitsLt_bf16_f32

end Cert.HgVGRefIdeal.Term

namespace Cert.HgVGIdeal.Call

open Cert.HgVGIdeal Cert.HgVGIdeal.Gen Cert.HgVGRefIdeal.Term

variable (m : (ℓ : Loc nD τ sig) → Buf (Elt Ideal) ℓ)

/-- The block each window stages at grid point `t`. -/
theorem idx_val : ∀ t : Fin cfg0.N, win0_0.index t = ![t.val / 8, 0]
    ∧ win0_1.index t = ![0, (t.val % 8) + 18]
    ∧ win0_2.index t = ![t.val / 8, t.val % 8] :=
  (by decide +kernel : ∀ t : Fin grid0.N, _)

/-- What grid point `t` stores at block position `y` is the reference at the place `y` sits at. -/
theorem point_v (c : Dev nD) (t : Fin cfg0.N) (h : t.val % 8 ≤ 3) (y : S1024x512.Idx) :
    k0_pay3 (iblk m c 0 t) (iblk m c 1 t) y
      = REF (m ((c : Thread nD τ).loc main_arg0)) (m ((c : Thread nD τ).loc main_arg1)) (((cfg0.win 2).blk t).view.emb y) := by
  have hy : (y 1 : ℕ) < 512 := (y 1).isLt
  pointwise [k0_pay1, k0_pay3, REF]
  rw [dif_pos (by blk_simp [idx_val t]; omega)]
  blk_point [iblk, V, idx_val t]

/-- What grid point `t` stores at block position `y` is the reference at the place `y` sits at. -/
theorem point_g (c : Dev nD) (t : Fin cfg0.N) (h : 4 ≤ t.val % 8) (y : S1024x512.Idx) :
    k0_pay2 (iblk m c 0 t) (iblk m c 1 t) y
      = REF (m ((c : Thread nD τ).loc main_arg0)) (m ((c : Thread nD τ).loc main_arg1)) (((cfg0.win 2).blk t).view.emb y) := by
  have hy : (y 1 : ℕ) < 512 := (y 1).isLt
  pointwise [k0_pay1, k0_pay2, REF]
  simp only [zero_sub]
  rw [dif_neg (by blk_simp [idx_val t]; omega)]
  blk_point [iblk, V, idx_val t]

/-- So the array left by the call is the array of the reference. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  rcases Nat.lt_or_ge 3 (t.val % 8) with h | h
  · rw [outsAt0_B m c t h (by omega)]
    frame_out
    exact point_g m c t h y
  · rw [outsAt0_A m c t (by omega) h]
    frame_out
    exact point_v m c t h y

end Cert.HgVGIdeal.Call

end
-- ==== Proof.LayerRun.lean ====
module

public import proofs.«01_k».proof.Proof.Gen.LayerIdeal.Frame
public import Idealize.ShloMosaic.Lib.Claim

@[expose] public section

set_option maxRecDepth 16384

/-!
# The run of the layer, with its result

The run of the eight calls ends with the arguments as they were and with the contents of the last boundary in the result.
-/

noncomputable section

namespace Cert.LayerIdeal.Call

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the layer ends, its result holding what the last call leaves, its arguments as launched. -/
theorem run_boundary : θ_run defs (onTc (τ := τ) (main (F := F))) ⟨m, fun _ => 0, ρ⟩ (fun r => ∀ c : Dev nD,
      r.2.mem ((c.tc : Thread nD τ).loc main_v23) = W16 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨h c _ (mem_uc main_v23 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c)⟩)

end Cert.LayerIdeal.Call

end
-- ==== Proof.LayerTerms.lean ====
module

public import proofs.«01_k».proof.Proof.Gen.LayerRefIdeal
public import Idealize.ShloMosaic.Lib.StableHlo
public import Idealize.ShloMosaic.Lib.Pipeline.ValueKit
public import Idealize.ShloMosaic.Lib.Pointwise
public import Idealize.ShloMosaic.Lib.Claim

@[expose] public section

set_option maxRecDepth 16384

/-!
# The steps of the layer's reference

Every step of the reference of the whole layer as a term over the arrays it reads, in the reference's own operations.
-/

noncomputable section

open Idealize.ShloMosaic Idealize.ShloMosaic.TcCoe Idealize.SL.Sem

namespace Cert.LayerRefIdeal.Term

open Cert.LayerRefIdeal Cert.LayerRefIdeal.Gen

/-- The two gates of every column: the sigmoid of `x @ w_gate + b_gate`. -/
abbrev GATES (x : FVec Ideal S16384x4096 .f32) (w : FVec Ideal S4096x8192 .f32) (b : FVec Ideal S8192 .f32) : FVec Ideal S16384x8192 .f32 :=
  Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (Host.dotGeneral dot_S16384x4096_S4096x8192_S16384x8192_1_0_0_1_n_n none x w) (broadcastInDim S16384x8192 ![0, 1] bcast_S1x8192_S16384x8192_0_1 (broadcastInDim S1x8192 ![1] bcast_S8192_S1x8192_1 b))))))

/-- The mix of the two branches' outputs: each one projected and multiplied by its gate, the two added. -/
abbrev MIX (x : FVec Ideal S16384x4096 .f32) (p q : FVec Ideal S16384x2048 .bf16) (w : FVec Ideal S4096x8192 .f32) (b : FVec Ideal S8192 .f32) (wp wq : FVec Ideal S2048x4096 .f32) : FVec Ideal S16384x4096 .f32 :=
  addf (mulf (extractStridedSlice S16384x4096 ![0, 0] (GATES x w b) slices_S16384x8192_S16384x4096_0_0) (Host.dotGeneral dot_S16384x2048_S2048x4096_S16384x4096_1_0_0_1_n_n none (extf .f32 p bitsLt_bf16_f32) wp)) (mulf (extractStridedSlice S16384x4096 ![0, 4096] (GATES x w b) slices_S16384x8192_S16384x4096_0_4096) (Host.dotGeneral dot_S16384x2048_S2048x4096_S16384x4096_1_0_0_1_n_n none (extf .f32 q bitsLt_bf16_f32) wq))

/-- A residual with a product of 4096 terms: the constant times `x`, plus `a @ w`. -/
abbrev RES (a : FVec Ideal S16384x4096 .f32) (w : FVec Ideal S4096x4096 .f32) (x : FVec Ideal S16384x4096 .f32) : FVec Ideal S16384x4096 .f32 :=
  addf (mulf (broadcastInDim S16384x4096 ![] bcast_S_S16384x4096 (constant S_ .f32 0x3F9837F0#32)) x) (Host.dotGeneral dot_S16384x4096_S4096x4096_S16384x4096_1_0_0_1_n_n none a w)

/-- The mean of every row. -/
abbrev MEAN (z : FVec Ideal S16384x4096 .f32) : FVec Ideal S16384x1 .f32 :=
  Host.divf (broadcastInDim S16384x1 ![0] bcast_S16384_S16384x1_0 (Host.reduceAdd z (constant S_ .f32 0x00000000#32) reducesTo_S16384x4096_S16384_d1 h_S_)) (broadcastInDim S16384x1 ![] bcast_S_S16384x1 (constant S_ .f32 0x45800000#32))

/-- Every row less its mean. -/
abbrev CENT (z : FVec Ideal S16384x4096 .f32) : FVec Ideal S16384x4096 .f32 :=
  subf z (broadcastInDim S16384x4096 ![0, 1] bcast_S16384x1_S16384x4096_0_1 (MEAN z))

/-- The layer norm: every row less its mean, over its deviation, scaled by `g` and shifted by `b`. -/
abbrev LN (z : FVec Ideal S16384x4096 .f32) (g b : FVec Ideal S4096 .f32) : FVec Ideal S16384x4096 .f32 :=
  addf (mulf (mulf (CENT z) (broadcastInDim S16384x4096 ![0, 1] bcast_S16384x1_S16384x4096_0_1 (Host.rsqrt (addf (Host.divf (broadcastInDim S16384x1 ![0] bcast_S16384_S16384x1_0 (Host.reduceAdd (mulf (CENT z) (CENT z)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 b))

/-- The up projection's product. -/
abbrev UP (a : FVec Ideal S16384x4096 .f32) (w : FVec Ideal S4096x22016 .f32) : FVec Ideal S16384x22016 .f32 :=
  Host.dotGeneral dot_S16384x4096_S4096x22016_S16384x22016_1_0_0_1_n_n none a w

/-- The first half of the up projection's columns. -/
abbrev UPU (a : FVec Ideal S16384x4096 .f32) (w : FVec Ideal S4096x22016 .f32) : FVec Ideal S16384x11008 .f32 :=
  extractStridedSlice S16384x11008 ![0, 0] (UP a w) slices_S16384x22016_S16384x11008_0_0

/-- The second half of the up projection's columns. -/
abbrev UPG (a : FVec Ideal S16384x4096 .f32) (w : FVec Ideal S4096x22016 .f32) : FVec Ideal S16384x11008 .f32 :=
  extractStridedSlice S16384x11008 ![0, 11008] (UP a w) slices_S16384x22016_S16384x11008_0_11008

/-- The gate's rows of the two sequences, a row of zeros before and after each. -/
abbrev PAD (g : FVec Ideal S16384x11008 .f32) : FVec Ideal S2x8194x11008 .f32 :=
  pad S2x8194x11008 ![0, 1, 0] ![0, 1, 0] ![0, 0, 0] (shapeCast _ g shapeCasts_S16384x11008_S2x8192x11008) (sitofp .f32 (constantI S_ 32 0#32)) pads_S2x8192x11008_S2x8194x11008_000_110_000 h_S_

/-- One row of three weights, the same for every row of every sequence. -/
abbrev ROW (r : FVec Ideal S1x11008 .f32) : FVec Ideal S2x8192x11008 .f32 :=
  broadcastInDim S2x8192x11008 ![0, 1, 2] bcast_S1x1x11008_S2x8192x11008_0_1_2 (broadcastInDim S1x1x11008 ![2] bcast_S11008_S1x1x11008_2 (shapeCast _ r shapeCasts_S1x11008_S11008))

/-- The convolution of three rows along the sequence. -/
abbrev CONV (g : FVec Ideal S16384x11008 .f32) (w : FVec Ideal S3x11008 .f32) (b : FVec Ideal S11008 .f32) : FVec Ideal S16384x11008 .f32 :=
  shapeCast _ (addf (addf (addf (mulf (extractStridedSlice S2x8192x11008 ![0, 0, 0] (PAD g) slices_S2x8194x11008_S2x8192x11008_0_0_0) (ROW (extractStridedSlice S1x11008 ![0, 0] w slices_S3x11008_S1x11008_0_0))) (mulf (extractStridedSlice S2x8192x11008 ![0, 1, 0] (PAD g) slices_S2x8194x11008_S2x8192x11008_0_1_0) (ROW (extractStridedSlice S1x11008 ![1, 0] w slices_S3x11008_S1x11008_1_0)))) (mulf (extractStridedSlice S2x8192x11008 ![0, 2, 0] (PAD g) slices_S2x8194x11008_S2x8192x11008_0_2_0) (ROW (extractStridedSlice S1x11008 ![2, 0] w slices_S3x11008_S1x11008_2_0)))) (broadcastInDim S2x8192x11008 ![0, 1, 2] bcast_S1x1x11008_S2x8192x11008_0_1_2 (broadcastInDim S1x1x11008 ![2] bcast_S11008_S1x1x11008_2 b))) shapeCasts_S2x8192x11008_S16384x11008

/-- The gated product: the convolution times its sigmoid times `u`. -/
abbrev ACT (s u : FVec Ideal S16384x11008 .f32) : FVec Ideal S16384x11008 .f32 :=
  mulf (mulf s (Host.divf (broadcastInDim S16384x11008 ![] bcast_S_S16384x11008 (constant S_ .f32 0x3F800000#32)) (addf (broadcastInDim S16384x11008 ![] bcast_S_S16384x11008 (constant S_ .f32 0x3F800000#32)) (Host.exp (Host.negf s))))) u

/-- A residual with a product of 11008 terms: the constant times `x`, plus `a @ w`. -/
abbrev DOWN (a : FVec Ideal S16384x11008 .f32) (w : FVec Ideal S11008x4096 .f32) (x : FVec Ideal S16384x4096 .f32) : FVec Ideal S16384x4096 .f32 :=
  addf (mulf (broadcastInDim S16384x4096 ![] bcast_S_S16384x4096 (constant S_ .f32 0x3F9837F0#32)) x) (Host.dotGeneral dot_S16384x11008_S11008x4096_S16384x4096_1_0_0_1_n_n none a w)

/-- The last step: `x` plus the sigmoid of `a @ wg` times `p @ w`. -/
abbrev PLE (x a : FVec Ideal S16384x4096 .f32) (p : FVec Ideal S16384x256 .f32) (wg : FVec Ideal S4096x4096 .f32) (w : FVec Ideal S256x4096 .f32) : FVec Ideal S16384x4096 .f32 :=
  addf x (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (Host.dotGeneral dot_S16384x4096_S4096x4096_S16384x4096_1_0_0_1_n_n none a wg))))) (Host.dotGeneral dot_S16384x256_S256x4096_S16384x4096_1_0_0_1_n_n none p w))

end Cert.LayerRefIdeal.Term

end
-- ==== Proof.LayerRef.lean ====
module

public import proofs.«01_k».proof.Proof.LayerTerms
public import proofs.«01_k».proof.Proof.Gen.LayerRefIdeal.Run

@[expose] public section

set_option maxRecDepth 16384

/-!
# The layer's reference as a chain of steps

The first norm's output, the second norm's output and the result, each a term over the arguments, and the reference's run in these terms.
-/

noncomputable section

open Idealize.ShloMosaic Idealize.ShloMosaic.TcCoe Idealize.SL.Sem

namespace Cert.LayerRefIdeal.Term

open Cert.LayerRefIdeal Cert.LayerRefIdeal.Gen Cert.LayerRefIdeal.Value

/-- The first norm of the residual sum of the projected mix. -/
def X1 (x : FVec Ideal S16384x4096 .f32) (p q : FVec Ideal S16384x2048 .bf16) (wp wq : FVec Ideal S2048x4096 .f32) (wg : FVec Ideal S4096x8192 .f32)
    (bg : FVec Ideal S8192 .f32) (wo : FVec Ideal S4096x4096 .f32) (g b : FVec Ideal S4096 .f32) : FVec Ideal S16384x4096 .f32 :=
  LN (RES (MIX x p q wg bg wp wq) wo x) g b

/-- The second norm of the residual sum of the feed-forward net. -/
def X2 (h : FVec Ideal S16384x4096 .f32) (wu : FVec Ideal S4096x22016 .f32) (cw : FVec Ideal S3x11008 .f32) (cb : FVec Ideal S11008 .f32)
    (wd : FVec Ideal S11008x4096 .f32) (g b : FVec Ideal S4096 .f32) : FVec Ideal S16384x4096 .f32 :=
  LN (DOWN (ACT (CONV (UPG h wu) cw cb) (UPU h wu)) wd h) g b

variable (V0 : Valuation τ sig (Elt Ideal))

/-- The reference's first norm is `X1`. -/
theorem first_norm : res_main_v46 V0 = X1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rfl

/-- The reference's second norm is `X2` of the first. -/
theorem second_norm : res_main_v105 V0 = X2 (res_main_v46 V0) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  rfl

variable (m : (ℓ : Loc nD τ sig) → Buf (Elt Ideal) ℓ) (ρ : Dev nD → PrngReg)

/-- Every run of the reference ends with the result at the chain of steps and the arguments as launched. -/
theorem run : θ_run defs (onTc (τ := τ) (main (F := Ideal))) ⟨m, fun _ => 0, ρ⟩ fun r => ∀ c : Dev nD,
      r.2.mem ((c.tc : Thread nD τ).loc main_v115)
        = PLE (X2 (X1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (X2 (X1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg3)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  refine (θ_run defs _ _).mono (fun _ h c => ⟨(h c).1.trans ?_, (h c).2⟩) (Cert.LayerRefIdeal.Value.run m ρ)
  rw [second_norm, first_norm]

end Cert.LayerRefIdeal.Term

end
-- ==== Proof.LayerMix.lean ====
module

public import proofs.«01_k».proof.Proof.LayerTerms
public import proofs.«01_k».proof.Proof.Gen.LayerIdeal.Frame.Region0
public import Idealize.ShloMosaic.Lib.Pipeline.ValueKit
public import Idealize.ShloMosaic.Lib.Pointwise
public import Idealize.ShloMosaic.Lib.Claim

@[expose] public section

set_option maxRecDepth 16384

/-!
# The mix of the two branches inside the layer

Whatever arrays the call is given, it leaves the two gated projections added.
-/

noncomputable section

open Idealize.ShloMosaic Idealize.ShloMosaic.TcCoe Idealize.SL.Sem
open Idealize.ShloMosaic.Pipeline (Dat)

namespace Cert.LayerIdeal.R0

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg0.N, win0_0.index t = ![t.val / 8, 0]
    ∧ win0_1.index t = ![t.val / 8, 0]
    ∧ win0_2.index t = ![t.val / 8, 0]
    ∧ win0_3.index t = ![0, t.val % 8]
    ∧ win0_4.index t = ![0, (t.val % 8) + 8]
    ∧ win0_5.index t = ![0, t.val % 8]
    ∧ win0_6.index t = ![0, t.val % 8]
    ∧ win0_7.index t = ![0, t.val % 8]
    ∧ win0_8.index t = ![0, (t.val % 8) + 8]
    ∧ win0_9.index t = ![t.val / 8, t.val % 8] :=
  (by decide +kernel : ∀ t : Fin grid0.N, _)

/-- The first gate of the kernel's block, times its projection. -/
theorem first_at (x : Vec Ideal S512x4096 .bf16) (w : Vec Ideal S4096x512 .bf16) (b : Vec Ideal S1x512 .f32)
    (p : Vec Ideal S512x2048 .bf16) (q : Vec Ideal S2048x512 .bf16) (y : S512x512.Idx) :
    k0_pay4 (F := Ideal) x w b p q y
      = Ideal.div 1 (1 + Ideal.exp (-(∑ k : Fin 4096, x (ix2 (y 0) k) * w (ix2 k (y 1)) + b (ix2 0 (y 1)))))
        * ∑ k : Fin 2048, p (ix2 (y 0) k) * q (ix2 k (y 1)) := by
  pointwise [k0_pay2, k0_pay4]
  simp only [zero_sub]

/-- The second gate of the kernel's block. -/
theorem gate_at (x : Vec Ideal S512x4096 .bf16) (w : Vec Ideal S4096x512 .bf16) (b : Vec Ideal S1x512 .f32)
    (y : S512x512.Idx) :
    k0_pay3 (F := Ideal) x w b y
      = Ideal.div 1 (1 + Ideal.exp (-(∑ k : Fin 4096, x (ix2 (y 0) k) * w (ix2 k (y 1)) + b (ix2 0 (y 1))))) := by
  pointwise [k0_pay2, k0_pay3]
  simp only [zero_sub]

/-- The block the kernel stores: the two gated projections added. -/
theorem store_at (u v : FVec Ideal S512x512 .f32) (p : Vec Ideal S512x2048 .bf16) (q : Vec Ideal S2048x512 .bf16)
    (y : S512x512.Idx) :
    k0_pay1 (F := Ideal) u v p q y = v y + u y * ∑ k : Fin 2048, p (ix2 (y 0) k) * q (ix2 k (y 1)) := by
  pointwise [k0_pay1]

/-- A column of the first half of the gate's weights. -/
abbrev lo (l : Fin 4096) : Fin 8192 := ⟨(l : ℕ), by omega⟩

/-- A column of the second half of the gate's weights. -/
abbrev hi (l : Fin 4096) : Fin 8192 := ⟨4096 + (l : ℕ), by omega⟩

/-- A row read as a matrix of one row, entry by entry. -/
theorem row_at (g : FVec Ideal S8192 .f32) (i : S1x8192.Idx) :
    shapeCast S1x8192 g shapeCasts_S8192_S1x8192 i = g (ix1 (i 1)) := by
  pointwise []

/-- The step's term, entry by entry: the two gated projections added. -/
theorem ref_at (x : FVec Ideal S16384x4096 .f32) (p q : FVec Ideal S16384x2048 .bf16)
    (w : FVec Ideal S4096x8192 .f32) (b : FVec Ideal S8192 .f32)
    (wp wq : FVec Ideal S2048x4096 .f32) (i : S16384x4096.Idx) :
    (truncf .bf16 (MIX x p q w b wp wq) bitsLt_bf16_f32 : FVec Ideal S16384x4096 .bf16) i
      = Ideal.div 1 (1 + Ideal.exp (-(∑ k : Fin 4096, x (ix2 (i 0) k) * w (ix2 k (lo (i 1))) + b (ix1 (lo (i 1))))))
          * ∑ k : Fin 2048, p (ix2 (i 0) k) * wp (ix2 k (i 1))
        + Ideal.div 1 (1 + Ideal.exp (-(∑ k : Fin 4096, x (ix2 (i 0) k) * w (ix2 k (hi (i 1))) + b (ix1 (hi (i 1))))))
          * ∑ k : Fin 2048, q (ix2 (i 0) k) * wq (ix2 k (i 1)) := by
  pointwise [MIX, GATES]

set_option maxHeartbeats 2000000 in
/-- What grid point `t` stores at block position `y` of output window 9 is the step's term at the place `y` sits at. -/
theorem point (c : Dev nD) (t : Fin cfg0.N) (y) (x : FVec Ideal S16384x4096 .f32) (p q : FVec Ideal S16384x2048 .bf16) (w : FVec Ideal S4096x8192 .f32) (b : FVec Ideal S8192 .f32) (wp wq : FVec Ideal S2048x4096 .f32)
    (hx : V c (Pipeline.arrRef spec0 0) = truncf .bf16 x bitsLt_bf16_f32) (hp : V c (Pipeline.arrRef spec0 1) = p) (hq : V c (Pipeline.arrRef spec0 2) = q) (h3 : V c (Pipeline.arrRef spec0 3) = truncf .bf16 w bitsLt_bf16_f32) (h4 : V c (Pipeline.arrRef spec0 4) = truncf .bf16 w bitsLt_bf16_f32) (hwp : V c (Pipeline.arrRef spec0 5) = truncf .bf16 wp bitsLt_bf16_f32) (hwq : V c (Pipeline.arrRef spec0 6) = truncf .bf16 wq bitsLt_bf16_f32) (h7 : V c (Pipeline.arrRef spec0 7) = shapeCast _ b shapeCasts_S8192_S1x8192) (h8 : V c (Pipeline.arrRef spec0 8) = shapeCast _ b shapeCasts_S8192_S1x8192) :
    k0_pay1 (k0_pay3 (iblk0 V c 0 t) (iblk0 V c 4 t) (iblk0 V c 8 t)) (k0_pay4 (iblk0 V c 0 t) (iblk0 V c 3 t) (iblk0 V c 7 t) (iblk0 V c 1 t) (iblk0 V c 5 t)) (iblk0 V c 2 t) (iblk0 V c 6 t) y
      = (truncf .bf16 (MIX x p q w b wp wq) bitsLt_bf16_f32) (((cfg0.win 9).blk t).view.emb y) := by
  rw [store_at, first_at, gate_at]
  refine Eq.trans ?_ (ref_at ..).symm
  simp only [iblk0]
  rw [hx, hp, hq, h3, hwp, hwq, h7]
  blk_point [idx_val t]
  · blk_simp [idx_val t]; try omega
  · rw [row_at]
    refine congrArg b (congrArg ix1 (Fin.ext ?_))
    dsimp only [lo]
    blk_simp [idx_val t]; try omega
  · blk_simp [idx_val t]; try omega
  · rw [row_at]
    refine congrArg b (congrArg ix1 (Fin.ext ?_))
    dsimp only [hi]
    blk_simp [idx_val t]; try omega

/-- So the array left in output window 9 is the step's term. -/
theorem final (c : Dev nD) (x : FVec Ideal S16384x4096 .f32) (p q : FVec Ideal S16384x2048 .bf16) (w : FVec Ideal S4096x8192 .f32) (b : FVec Ideal S8192 .f32) (wp wq : FVec Ideal S2048x4096 .f32)
    (hx : V c (Pipeline.arrRef spec0 0) = truncf .bf16 x bitsLt_bf16_f32) (hp : V c (Pipeline.arrRef spec0 1) = p) (hq : V c (Pipeline.arrRef spec0 2) = q) (h3 : V c (Pipeline.arrRef spec0 3) = truncf .bf16 w bitsLt_bf16_f32) (h4 : V c (Pipeline.arrRef spec0 4) = truncf .bf16 w bitsLt_bf16_f32) (hwp : V c (Pipeline.arrRef spec0 5) = truncf .bf16 wp bitsLt_bf16_f32) (hwq : V c (Pipeline.arrRef spec0 6) = truncf .bf16 wq bitsLt_bf16_f32) (h7 : V c (Pipeline.arrRef spec0 7) = shapeCast _ b shapeCasts_S8192_S1x8192) (h8 : V c (Pipeline.arrRef spec0 8) = shapeCast _ b shapeCasts_S8192_S1x8192) :
    (dat0 V c).arrAt 9 cfg0.N = truncf .bf16 (MIX x p q w b wp wq) bitsLt_bf16_f32 := by
  refine (dat0 V c).arrAt_eq_of_covers 9 _ (by decide +kernel) fun t hf y => ?_
  blk_simp; rw [after0_9]; frame_out
  exact point V c t y x p q w b wp wq hx hp hq h3 h4 hwp hwq h7 h8

end Cert.LayerIdeal.R0

end
-- ==== Proof.LayerOut.lean ====
module

public import proofs.«01_k».proof.Proof.LayerTerms
public import proofs.«01_k».proof.Proof.Gen.LayerIdeal.Frame.Region1
public import Idealize.ShloMosaic.Lib.Pipeline.ValueKit
public import Idealize.ShloMosaic.Lib.Pointwise
public import Idealize.ShloMosaic.Lib.Claim

@[expose] public section

set_option maxRecDepth 16384

/-!
# The output projection inside the layer

Whatever arrays the call is given, it leaves the constant times the residual plus the product.
-/

noncomputable section

open Idealize.ShloMosaic Idealize.ShloMosaic.TcCoe Idealize.SL.Sem
open Idealize.ShloMosaic.Pipeline (Dat)

namespace Cert.LayerIdeal.R1

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg1.N, win1_0.index t = ![t.val / 8, 0]
    ∧ win1_1.index t = ![0, t.val % 8]
    ∧ win1_2.index t = ![t.val / 8, t.val % 8]
    ∧ win1_3.index t = ![t.val / 8, t.val % 8] :=
  (by decide +kernel : ∀ t : Fin grid1.N, _)

/-- What grid point `t` stores at block position `y` of output window 3 is the step's term at the place `y` sits at. -/
theorem point (c : Dev nD) (t : Fin cfg1.N) (y) (a : FVec Ideal S16384x4096 .f32) (w : FVec Ideal S4096x4096 .f32) (x : FVec Ideal S16384x4096 .f32)
    (ha : V c (Pipeline.arrRef spec1 0) = truncf .bf16 a bitsLt_bf16_f32) (hw : V c (Pipeline.arrRef spec1 1) = truncf .bf16 w bitsLt_bf16_f32) (hx : V c (Pipeline.arrRef spec1 2) = x) :
    k1_pay1 (iblk1 V c 2 t) (iblk1 V c 0 t) (iblk1 V c 1 t) y
      = (RES a w x) (((cfg1.win 3).blk t).view.emb y) := by
  pointwise [k1_pay1, RES]
  simp only [iblk1]
  rw [ha, hw, hx]
  blk_point [idx_val t]

/-- So the array left in output window 3 is the step's term. -/
theorem final (c : Dev nD) (a : FVec Ideal S16384x4096 .f32) (w : FVec Ideal S4096x4096 .f32) (x : FVec Ideal S16384x4096 .f32)
    (ha : V c (Pipeline.arrRef spec1 0) = truncf .bf16 a bitsLt_bf16_f32) (hw : V c (Pipeline.arrRef spec1 1) = truncf .bf16 w bitsLt_bf16_f32) (hx : V c (Pipeline.arrRef spec1 2) = x) :
    (dat1 V c).arrAt 3 cfg1.N = RES a w x := by
  refine (dat1 V c).arrAt_eq_of_covers 3 _ (by decide +kernel) fun t hf y => ?_
  blk_simp; rw [after1_3]; frame_out
  exact point V c t y a w x ha hw hx

end Cert.LayerIdeal.R1

end
-- ==== Proof.LayerNorm1.lean ====
module

public import proofs.«01_k».proof.Proof.LayerTerms
public import proofs.«01_k».proof.Proof.Gen.LayerIdeal.Frame.Region2
public import Idealize.ShloMosaic.Lib.Pipeline.ValueKit
public import Idealize.ShloMosaic.Lib.Pointwise
public import Idealize.ShloMosaic.Lib.Claim

@[expose] public section

set_option maxRecDepth 16384

/-!
# The first layer norm inside the layer

Whatever array the call is given, it leaves its layer norm twice: as it is, and rounded.
-/

noncomputable section

open Idealize.ShloMosaic Idealize.ShloMosaic.TcCoe Idealize.SL.Sem
open Idealize.ShloMosaic.Pipeline (Dat)

namespace Cert.LayerIdeal.R2

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg2.N, win2_0.index t = ![t.val, 0]
    ∧ win2_1.index t = ![0, 0]
    ∧ win2_2.index t = ![0, 0]
    ∧ win2_3.index t = ![t.val, 0]
    ∧ win2_4.index t = ![t.val, 0] :=
  (by decide +kernel : ∀ t : Fin grid2.N, _)

/-- A row read as a matrix of one row, entry by entry. -/
theorem row_at (g : FVec Ideal S4096 .f32) (i : S1x4096.Idx) :
    shapeCast S1x4096 g shapeCasts_S4096_S1x4096 i = g (ix1 (i 1)) := by
  pointwise []

set_option maxHeartbeats 2000000 in
/-- What grid point `t` stores at block position `y` of output window 3 is the step's term at the place `y` sits at. -/
theorem point3 (c : Dev nD) (t : Fin cfg2.N) (y) (z : FVec Ideal S16384x4096 .f32) (g b : FVec Ideal S4096 .f32)
    (hz : V c (Pipeline.arrRef spec2 0) = z) (hg : V c (Pipeline.arrRef spec2 1) = shapeCast _ g shapeCasts_S4096_S1x4096) (hb : V c (Pipeline.arrRef spec2 2) = shapeCast _ b shapeCasts_S4096_S1x4096) :
    k2_pay1 (iblk2 V c 0 t) (iblk2 V c 1 t) (iblk2 V c 2 t) y
      = (LN z g b) (((cfg2.win 3).blk t).view.emb y) := by
  pointwise [k2_pay1, LN, CENT, MEAN]
  simp only [iblk2]
  rw [hz, hg, hb]
  blk_point [idx_val t]
  · rw [row_at]
    refine congrArg g (congrArg ix1 (Fin.ext ?_))
    blk_simp [idx_val t]; try omega
  · rw [row_at]
    refine congrArg b (congrArg ix1 (Fin.ext ?_))
    blk_simp [idx_val t]; try omega

/-- So the array left in output window 3 is the step's term. -/
theorem final3 (c : Dev nD) (z : FVec Ideal S16384x4096 .f32) (g b : FVec Ideal S4096 .f32)
    (hz : V c (Pipeline.arrRef spec2 0) = z) (hg : V c (Pipeline.arrRef spec2 1) = shapeCast _ g shapeCasts_S4096_S1x4096) (hb : V c (Pipeline.arrRef spec2 2) = shapeCast _ b shapeCasts_S4096_S1x4096) :
    (dat2 V c).arrAt 3 cfg2.N = LN z g b := by
  refine (dat2 V c).arrAt_eq_of_covers 3 _ (by decide +kernel) fun t hf y => ?_
  blk_simp; rw [after2_3]; frame_out
  exact point3 V c t y z g b hz hg hb

set_option maxHeartbeats 2000000 in
/-- What grid point `t` stores at block position `y` of output window 4 is the step's term at the place `y` sits at. -/
theorem point4 (c : Dev nD) (t : Fin cfg2.N) (y) (z : FVec Ideal S16384x4096 .f32) (g b : FVec Ideal S4096 .f32)
    (hz : V c (Pipeline.arrRef spec2 0) = z) (hg : V c (Pipeline.arrRef spec2 1) = shapeCast _ g shapeCasts_S4096_S1x4096) (hb : V c (Pipeline.arrRef spec2 2) = shapeCast _ b shapeCasts_S4096_S1x4096) :
    k2_pay2 (iblk2 V c 0 t) (iblk2 V c 1 t) (iblk2 V c 2 t) y
      = (truncf .bf16 (LN z g b) bitsLt_bf16_f32) (((cfg2.win 4).blk t).view.emb y) := by
  pointwise [k2_pay1, k2_pay2, LN, CENT, MEAN]
  simp only [iblk2]
  rw [hz, hg, hb]
  blk_point [idx_val t]
  · rw [row_at]
    refine congrArg g (congrArg ix1 (Fin.ext ?_))
    blk_simp [idx_val t]; try omega
  · rw [row_at]
    refine congrArg b (congrArg ix1 (Fin.ext ?_))
    blk_simp [idx_val t]; try omega

/-- So the array left in output window 4 is the step's term. -/
theorem final4 (c : Dev nD) (z : FVec Ideal S16384x4096 .f32) (g b : FVec Ideal S4096 .f32)
    (hz : V c (Pipeline.arrRef spec2 0) = z) (hg : V c (Pipeline.arrRef spec2 1) = shapeCast _ g shapeCasts_S4096_S1x4096) (hb : V c (Pipeline.arrRef spec2 2) = shapeCast _ b shapeCasts_S4096_S1x4096) :
    (dat2 V c).arrAt 4 cfg2.N = truncf .bf16 (LN z g b) bitsLt_bf16_f32 := by
  refine (dat2 V c).arrAt_eq_of_covers 4 _ (by decide +kernel) fun t hf y => ?_
  blk_simp; rw [after2_4]; frame_out
  exact point4 V c t y z g b hz hg hb

end Cert.LayerIdeal.R2

end
-- ==== Proof.LayerUp.lean ====
module

public import proofs.«01_k».proof.Proof.LayerTerms
public import proofs.«01_k».proof.Proof.Gen.LayerIdeal.Frame.Region3
public import Idealize.ShloMosaic.Lib.Pipeline.ValueKit
public import Idealize.ShloMosaic.Lib.Pointwise
public import Idealize.ShloMosaic.Lib.Claim

@[expose] public section

set_option maxRecDepth 16384

/-!
# The up projection inside the layer

Whatever arrays the call is given, it leaves the two halves of the product.
-/

noncomputable section

open Idealize.ShloMosaic Idealize.ShloMosaic.TcCoe Idealize.SL.Sem
open Idealize.ShloMosaic.Pipeline (Dat)

namespace Cert.LayerIdeal.R3

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg3.N, win3_0.index t = ![t.val / 43, 0]
    ∧ win3_1.index t = ![0, t.val % 43]
    ∧ win3_2.index t = ![0, (t.val % 43) + 43]
    ∧ win3_3.index t = ![t.val / 43, t.val % 43]
    ∧ win3_4.index t = ![t.val / 43, t.val % 43] :=
  (by decide +kernel : ∀ t : Fin grid3.N, _)

/-- What grid point `t` stores at block position `y` of output window 3 is the step's term at the place `y` sits at. -/
theorem point3 (c : Dev nD) (t : Fin cfg3.N) (y) (a : FVec Ideal S16384x4096 .f32) (w : FVec Ideal S4096x22016 .f32)
    (ha : V c (Pipeline.arrRef spec3 0) = truncf .bf16 a bitsLt_bf16_f32) (h1 : V c (Pipeline.arrRef spec3 1) = truncf .bf16 w bitsLt_bf16_f32) (h2 : V c (Pipeline.arrRef spec3 2) = truncf .bf16 w bitsLt_bf16_f32) :
    k3_pay2 (iblk3 V c 0 t) (iblk3 V c 1 t) y
      = (truncf .bf16 (UPU a w) bitsLt_bf16_f32) (((cfg3.win 3).blk t).view.emb y) := by
  pointwise [k3_pay1, k3_pay2, UPU]
  simp only [iblk3]
  rw [ha, h1]
  blk_point [idx_val t]

/-- So the array left in output window 3 is the step's term. -/
theorem final3 (c : Dev nD) (a : FVec Ideal S16384x4096 .f32) (w : FVec Ideal S4096x22016 .f32)
    (ha : V c (Pipeline.arrRef spec3 0) = truncf .bf16 a bitsLt_bf16_f32) (h1 : V c (Pipeline.arrRef spec3 1) = truncf .bf16 w bitsLt_bf16_f32) (h2 : V c (Pipeline.arrRef spec3 2) = truncf .bf16 w bitsLt_bf16_f32) :
    (dat3 V c).arrAt 3 cfg3.N = truncf .bf16 (UPU a w) bitsLt_bf16_f32 := by
  refine (dat3 V c).arrAt_eq_of_covers 3 _ (by decide +kernel) fun t hf y => ?_
  blk_simp; rw [after3_3]; frame_out
  exact point3 V c t y a w ha h1 h2

/-- What grid point `t` stores at block position `y` of output window 4 is the step's term at the place `y` sits at. -/
theorem point4 (c : Dev nD) (t : Fin cfg3.N) (y) (a : FVec Ideal S16384x4096 .f32) (w : FVec Ideal S4096x22016 .f32)
    (ha : V c (Pipeline.arrRef spec3 0) = truncf .bf16 a bitsLt_bf16_f32) (h1 : V c (Pipeline.arrRef spec3 1) = truncf .bf16 w bitsLt_bf16_f32) (h2 : V c (Pipeline.arrRef spec3 2) = truncf .bf16 w bitsLt_bf16_f32) :
    k3_pay3 (iblk3 V c 0 t) (iblk3 V c 2 t) y
      = (truncf .bf16 (UPG a w) bitsLt_bf16_f32) (((cfg3.win 4).blk t).view.emb y) := by
  pointwise [k3_pay1, k3_pay3, UPG]
  simp only [iblk3]
  rw [ha, h2]
  blk_point [idx_val t]

/-- So the array left in output window 4 is the step's term. -/
theorem final4 (c : Dev nD) (a : FVec Ideal S16384x4096 .f32) (w : FVec Ideal S4096x22016 .f32)
    (ha : V c (Pipeline.arrRef spec3 0) = truncf .bf16 a bitsLt_bf16_f32) (h1 : V c (Pipeline.arrRef spec3 1) = truncf .bf16 w bitsLt_bf16_f32) (h2 : V c (Pipeline.arrRef spec3 2) = truncf .bf16 w bitsLt_bf16_f32) :
    (dat3 V c).arrAt 4 cfg3.N = truncf .bf16 (UPG a w) bitsLt_bf16_f32 := by
  refine (dat3 V c).arrAt_eq_of_covers 4 _ (by decide +kernel) fun t hf y => ?_
  blk_simp; rw [after3_4]; frame_out
  exact point4 V c t y a w ha h1 h2

end Cert.LayerIdeal.R3

end
-- ==== Proof.LayerConv.lean ====
module

public import proofs.«01_k».proof.Proof.LayerTerms
public import proofs.«01_k».proof.Proof.Gen.LayerIdeal.Frame.Region4
public import Idealize.ShloMosaic.Lib.Pipeline.ValueKit
public import Idealize.ShloMosaic.Lib.Pointwise
public import Idealize.ShloMosaic.Lib.Claim

@[expose] public section

set_option maxRecDepth 16384

/-!
# The convolution inside the layer

Whatever arrays the call is given, it leaves the gated convolution of three rows along each sequence: the row before the
first row of a sequence and the row after its last count as zeros.
-/

noncomputable section

open Idealize.ShloMosaic Idealize.ShloMosaic.TcCoe Idealize.SL.Sem
open Idealize.ShloMosaic.Pipeline (Dat)

namespace Cert.LayerIdeal.R4

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg4.N, win4_0.index t = ![t.val / 2, t.val % 2]
    ∧ win4_1.index t = ![t.val / 2 * 8 - 1, t.val % 2]
    ∧ win4_2.index t = ![min (t.val / 2 * 8 + 8) 1023, t.val % 2]
    ∧ win4_3.index t = ![t.val / 2, t.val % 2]
    ∧ win4_4.index t = ![0, t.val % 2]
    ∧ win4_5.index t = ![0, t.val % 2]
    ∧ win4_6.index t = ![t.val / 2, t.val % 2] :=
  (by decide +kernel : ∀ t : Fin grid4.N, _)

/-- The first coordinate of grid point `t`. -/
theorem coord_val : ∀ t : Fin cfg4.N, ((grid4.coords t) 0).val = t.val / 2 :=
  (by decide +kernel : ∀ t : Fin grid4.N, _)

/-- The row before a block: zero for the first block of a sequence, else the row the call reads. -/
theorem prev_at (t : Fin cfg4.N) (v : Vec Ideal S1x5504 .bf16) (y : S1x5504.Idx) :
    k4_pay3 (F := Ideal) (grid4.coords t) v y = if t.val / 2 % 64 = 0 then 0 else v y := by
  pointwise [k4_pay3]
  rw [coord_val]
  have h : ∀ t : Fin cfg4.N, (Scalar.cmpi .eq (Scalar.select (Scalar.andi (Scalar.xori (Scalar.cmpi .slt (Scalar.remsi (BitVec.ofNat 32 (t.val / 2)) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (BitVec.ofNat 32 (t.val / 2)) (Scalar.select (Scalar.cmpi .eq 64#32 0#32) 1#32 64#32)) 0#32)) (Scalar.addi (Scalar.remsi (BitVec.ofNat 32 (t.val / 2)) (Scalar.select (Scalar.cmpi .eq 64#32 0#32) 1#32 64#32)) (Scalar.select (Scalar.cmpi .eq 64#32 0#32) 1#32 64#32)) (Scalar.remsi (BitVec.ofNat 32 (t.val / 2)) (Scalar.select (Scalar.cmpi .eq 64#32 0#32) 1#32 64#32))) 0#32)
      = if t.val / 2 % 64 = 0 then 1#1 else 0#1 := by decide +kernel
  rw [h t]
  by_cases e : t.val / 2 % 64 = 0
  · rw [if_pos e, if_pos e]; rfl
  · rw [if_neg e, if_neg e]; rfl

/-- The row after a block: zero for the last block of a sequence, else the row the call reads. -/
theorem next_at (t : Fin cfg4.N) (v : Vec Ideal S1x5504 .bf16) (y : S1x5504.Idx) :
    k4_pay4 (F := Ideal) (grid4.coords t) v y = if t.val / 2 % 64 = 63 then 0 else v y := by
  pointwise [k4_pay4]
  rw [coord_val]
  have h : ∀ t : Fin cfg4.N, (Scalar.cmpi .eq (Scalar.select (Scalar.andi (Scalar.xori (Scalar.cmpi .slt (Scalar.remsi (BitVec.ofNat 32 (t.val / 2)) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (BitVec.ofNat 32 (t.val / 2)) (Scalar.select (Scalar.cmpi .eq 64#32 0#32) 1#32 64#32)) 0#32)) (Scalar.addi (Scalar.remsi (BitVec.ofNat 32 (t.val / 2)) (Scalar.select (Scalar.cmpi .eq 64#32 0#32) 1#32 64#32)) (Scalar.select (Scalar.cmpi .eq 64#32 0#32) 1#32 64#32)) (Scalar.remsi (BitVec.ofNat 32 (t.val / 2)) (Scalar.select (Scalar.cmpi .eq 64#32 0#32) 1#32 64#32))) 63#32)
      = if t.val / 2 % 64 = 63 then 1#1 else 0#1 := by decide +kernel
  rw [h t]
  by_cases e : t.val / 2 % 64 = 63
  · rw [if_pos e, if_pos e]; rfl
  · rw [if_neg e, if_neg e]; rfl

/-- A row number under 128 is the word of a number exactly when the two numbers agree. -/
theorem row_eq (n : Fin 128) : (IntOp.cmpi .eq (BitVec.ofNat 32 n.val) 0#32) = (if n.val = 0 then 1#1 else 0#1)
    ∧ (IntOp.cmpi .eq (BitVec.ofNat 32 n.val) 127#32) = (if n.val = 127 then 1#1 else 0#1) :=
  (by decide +kernel : ∀ n : Fin 128, (IntOp.cmpi .eq (BitVec.ofNat 32 n.val) 0#32) = (if n.val = 0 then 1#1 else 0#1)
    ∧ (IntOp.cmpi .eq (BitVec.ofNat 32 n.val) 127#32) = (if n.val = 127 then 1#1 else 0#1)) n

/-- The row before row `r` of a block: the row `p` handed in for the first, else the block's own. -/
abbrev before (v : FVec Ideal S128x5504 .f32) (p : FVec Ideal S1x5504 .f32) (y : S128x5504.Idx) : EReal :=
  if (y 0).val = 0 then p (ix2 0 (y 1)) else v (ix2 ⟨(y 0).val - 1, by have : (y 0).val < 128 := (y 0).isLt; omega⟩ (y 1))

/-- The row after row `r` of a block: the row `p` handed in for the last, else the block's own. -/
abbrev behind (v : FVec Ideal S128x5504 .f32) (p : FVec Ideal S1x5504 .f32) (y : S128x5504.Idx) : EReal :=
  if (y 0).val = 127 then p (ix2 0 (y 1)) else v (ix2 ⟨((y 0).val + 1) % 128, Nat.mod_lt _ (by decide)⟩ (y 1))

/-- The gate: a value times its sigmoid times `u`. -/
abbrev gate (s u : EReal) : EReal := s * Ideal.div 1 (1 + Ideal.exp (-s)) * u

/-- The block the call stores, entry by entry. -/
theorem pay_at (v : FVec Ideal S128x5504 .f32) (p n : FVec Ideal S1x5504 .f32) (w : Vec Ideal S3x5504 .f32) (b : Vec Ideal S1x5504 .f32) (u : Vec Ideal S128x5504 .bf16) (y : S128x5504.Idx) :
    k4_pay1 (F := Ideal) v p n (iota .tc S128x5504 32 [0] iota_S128x5504_d0_w32) w b u y
      = gate (before v p y * w (ix2 0 (y 1)) + v y * w (ix2 1 (y 1)) + behind v n y * w (ix2 2 (y 1)) + b (ix2 0 (y 1))) (u y) := by
  pointwise [k4_pay1]
  have hy : (y 0).val < 128 := (y 0).isLt
  have e1 := (row_eq (y 0)).1
  have e2 := (row_eq (y 0)).2
  rw [e1, e2]
  have p1 : ∀ h, Scalar.select (if (y 0).val = 0 then 1#1 else 0#1) (p (ix2 0 (y 1))) (v (ix2 ⟨((y 0).val + 128 - 1) % 128, h⟩ (y 1))) = before v p y := by
    intro h
    by_cases e : (y 0).val = 0
    · rw [if_pos e]; exact (if_pos e).symm
    · rw [if_neg e]
      refine Eq.trans ?_ (if_neg e).symm
      refine congrArg (fun r => v (ix2 r (y 1))) (Fin.ext ?_)
      dsimp only; omega
  have p2 : ∀ h, Scalar.select (if (y 0).val = 127 then 1#1 else 0#1) (n (ix2 0 (y 1))) (v (ix2 ⟨((y 0).val + 128 - 127) % 128, h⟩ (y 1))) = behind v n y := by
    intro h
    by_cases e : (y 0).val = 127
    · rw [if_pos e]; exact (if_pos e).symm
    · rw [if_neg e]
      refine Eq.trans ?_ (if_neg e).symm
      refine congrArg (fun r => v (ix2 r (y 1))) (Fin.ext ?_)
      dsimp only; omega
  simp only [p1, p2, zero_sub]

/-- The step's term, entry by entry: no row before the first of a sequence, none after the last. -/
theorem ref_at (g u : FVec Ideal S16384x11008 .f32) (w : FVec Ideal S3x11008 .f32) (b : FVec Ideal S11008 .f32) (i : S16384x11008.Idx) :
    (truncf .bf16 (ACT (CONV g w b) u) bitsLt_bf16_f32 : FVec Ideal S16384x11008 .bf16) i
      = gate ((if (i 0).val % 8192 = 0 then 0 else g (ix2 ⟨(i 0).val - 1, by have : (i 0).val < 16384 := (i 0).isLt; omega⟩ (i 1))) * w (ix2 0 (i 1)) + g i * w (ix2 1 (i 1))
        + (if (i 0).val % 8192 = 8191 then 0 else g (ix2 ⟨((i 0).val + 1) % 16384, Nat.mod_lt _ (by decide)⟩ (i 1))) * w (ix2 2 (i 1)) + b (ix1 (i 1))) (u i) := by
  have hi : (i 0).val < 16384 := (i 0).isLt
  pointwise [ACT, CONV, ROW]
  have z : (FloatOps.sitofp .f32 0#32 : Ideal .f32) = 0 := by
    show (((0#32 : BitVec 32).toInt : ℝ) : EReal) = 0
    simp
  simp only [z]
  have q1 : (if h : (i 0).val / 8192 < 2 ∧ 1 ≤ (i 0).val % 8192 ∧ (i 0).val % 8192 - 1 < 8192 then
      g (ix2 ⟨(i 0).val / 8192 * 8192 + ((i 0).val % 8192 - 1), by omega⟩ (i 1)) else (0 : EReal))
      = if (i 0).val % 8192 = 0 then 0 else g (ix2 ⟨(i 0).val - 1, by omega⟩ (i 1)) := by
    by_cases e : (i 0).val % 8192 = 0
    · rw [if_pos e, dif_neg (by omega)]
    · rw [if_neg e, dif_pos (by omega)]
      refine congrArg (fun r => g (ix2 r (i 1))) (Fin.ext ?_)
      dsimp only; omega
  have q2 : (if h : (i 0).val / 8192 < 2 ∧ (i 0).val % 8192 < 8192 then g i else (0 : EReal)) = g i := dif_pos (by omega)
  have q3 : (if h : (i 0).val / 8192 < 2 ∧ 1 ≤ 2 + (i 0).val % 8192 ∧ 2 + (i 0).val % 8192 - 1 < 8192 then
      g (ix2 ⟨(i 0).val / 8192 * 8192 + (2 + (i 0).val % 8192 - 1), by omega⟩ (i 1)) else (0 : EReal))
      = if (i 0).val % 8192 = 8191 then 0 else g (ix2 ⟨((i 0).val + 1) % 16384, Nat.mod_lt _ (by decide)⟩ (i 1)) := by
    by_cases e : (i 0).val % 8192 = 8191
    · rw [if_pos e, dif_neg (by omega)]
    · rw [if_neg e, dif_pos (by omega)]
      refine congrArg (fun r => g (ix2 r (i 1))) (Fin.ext ?_)
      dsimp only; omega
  simp only [q1, q2, q3]

/-- The place in the array of row `r` and column `k` of block `t`. -/
abbrev place (t : Fin cfg4.N) (r : Fin 128) (k : Fin 5504) : S16384x11008.Idx :=
  ix2 ⟨t.val / 2 * 128 + r.val, by have : t.val < 256 := t.isLt; omega⟩ ⟨t.val % 2 * 5504 + k.val, by omega⟩

/-- The place a block position of the output sits at. -/
theorem emb_at (t : Fin cfg4.N) (y : S128x5504.Idx) : ((cfg4.win 6).blk t).view.emb y = place t (y 0) (y 1) := by
  refine funext fun a => Fin.ext ?_
  fin_cases a <;> (blk_simp [idx_val t]; try rfl)

/-- The block of the gate's input, entry by entry. -/
theorem blk0_at (c : Dev nD) (t : Fin cfg4.N) (g : FVec Ideal S16384x11008 .f32)
    (hg : V c (Pipeline.arrRef spec4 0) = truncf .bf16 g bitsLt_bf16_f32) (y : S128x5504.Idx) :
    iblk4 V c 0 t y = g (place t (y 0) (y 1)) := by
  simp only [iblk4]
  rw [hg]
  refine congrArg g (funext fun a => Fin.ext ?_)
  fin_cases a <;> (blk_simp [idx_val t]; try rfl)

/-- The sixteen rows before a block: the last of them. -/
theorem blk1_at (c : Dev nD) (t : Fin cfg4.N) (g : FVec Ideal S16384x11008 .f32)
    (hg : V c (Pipeline.arrRef spec4 1) = truncf .bf16 g bitsLt_bf16_f32) (y : S1x5504.Idx) :
    View.ld (iblk4 V c 1 t) r4_1 y = g (ix2 ⟨(t.val / 2 * 8 - 1) * 16 + 15, by have : t.val < 256 := t.isLt; omega⟩ ⟨t.val % 2 * 5504 + (y 1).val, by have : (y 1).val < 5504 := (y 1).isLt; omega⟩) := by
  simp only [iblk4]
  rw [hg]
  refine congrArg g (funext fun a => Fin.ext ?_)
  have h0 : (y 0).val < 1 := (y 0).isLt
  fin_cases a
  · blk_simp [idx_val t]
    show (t.val / 2 * 8 - 1) * 16 + (15 + 1 * (y 0).val) = (t.val / 2 * 8 - 1) * 16 + 15
    omega
  · blk_simp [idx_val t]
    show t.val % 2 * 5504 + (0 + 1 * (y 1).val) = t.val % 2 * 5504 + (y 1).val
    omega

/-- The sixteen rows after a block: the first of them. -/
theorem blk2_at (c : Dev nD) (t : Fin cfg4.N) (g : FVec Ideal S16384x11008 .f32)
    (hg : V c (Pipeline.arrRef spec4 2) = truncf .bf16 g bitsLt_bf16_f32) (y : S1x5504.Idx) :
    View.ld (iblk4 V c 2 t) r4_2 y = g (ix2 ⟨min (t.val / 2 * 8 + 8) 1023 * 16, by omega⟩ ⟨t.val % 2 * 5504 + (y 1).val, by have : (y 1).val < 5504 := (y 1).isLt; omega⟩) := by
  simp only [iblk4]
  rw [hg]
  refine congrArg g (funext fun a => Fin.ext ?_)
  have h0 : (y 0).val < 1 := (y 0).isLt
  fin_cases a
  · blk_simp [idx_val t]
    show min (t.val / 2 * 8 + 8) 1023 * 16 + (0 + 1 * (y 0).val) = min (t.val / 2 * 8 + 8) 1023 * 16
    omega
  · blk_simp [idx_val t]
    show t.val % 2 * 5504 + (0 + 1 * (y 1).val) = t.val % 2 * 5504 + (y 1).val
    omega

/-- The block of the gated branch, entry by entry. -/
theorem blk3_at (c : Dev nD) (t : Fin cfg4.N) (g : FVec Ideal S16384x11008 .f32)
    (hg : V c (Pipeline.arrRef spec4 3) = truncf .bf16 g bitsLt_bf16_f32) (y : S128x5504.Idx) :
    iblk4 V c 3 t y = g (place t (y 0) (y 1)) := by
  simp only [iblk4]
  rw [hg]
  refine congrArg g (funext fun a => Fin.ext ?_)
  fin_cases a <;> (blk_simp [idx_val t]; try rfl)

/-- The block of the three rows of weights, entry by entry. -/
theorem blk4_at (c : Dev nD) (t : Fin cfg4.N) (w : FVec Ideal S3x11008 .f32)
    (hw : V c (Pipeline.arrRef spec4 4) = w) (r : Fin 3) (k : Fin 5504) :
    iblk4 V c 4 t (ix2 r k) = w (ix2 r ⟨t.val % 2 * 5504 + k.val, by omega⟩) := by
  simp only [iblk4]
  rw [hw]
  refine congrArg w (funext fun a => Fin.ext ?_)
  fin_cases a <;> (blk_simp [idx_val t]; try rfl)

/-- A row read as a matrix of one row, entry by entry. -/
theorem row_at (g : FVec Ideal S11008 .f32) (i : S1x11008.Idx) :
    shapeCast S1x11008 g shapeCasts_S11008_S1x11008 i = g (ix1 (i 1)) := by
  pointwise []

/-- The block of the bias, entry by entry. -/
theorem blk5_at (c : Dev nD) (t : Fin cfg4.N) (b : FVec Ideal S11008 .f32)
    (hb : V c (Pipeline.arrRef spec4 5) = shapeCast _ b shapeCasts_S11008_S1x11008) (k : Fin 5504) :
    iblk4 V c 5 t (ix2 0 k) = b (ix1 ⟨t.val % 2 * 5504 + k.val, by omega⟩) := by
  simp only [iblk4]
  rw [hb]
  refine (row_at b _).trans (congrArg b (congrArg ix1 (Fin.ext ?_)))
  blk_simp [idx_val t]

/-- The convolution's middle operand: the block itself. -/
theorem own_at (v : Vec Ideal S128x5504 .bf16) (y : S128x5504.Idx) : k4_pay2 (F := Ideal) v y = v y := by
  pointwise [k4_pay2]

/-- The row before a place of the block is the row before it in the array, zero at the start of a sequence. -/
theorem before_at (c : Dev nD) (t : Fin cfg4.N) (g : FVec Ideal S16384x11008 .f32)
    (h0 : V c (Pipeline.arrRef spec4 0) = truncf .bf16 g bitsLt_bf16_f32)
    (h1 : V c (Pipeline.arrRef spec4 1) = truncf .bf16 g bitsLt_bf16_f32) (y : S128x5504.Idx) :
    before (k4_pay2 (iblk4 V c 0 t)) (k4_pay3 (grid4.coords t) (View.ld (iblk4 V c 1 t) r4_1)) y
      = if ((place t (y 0) (y 1)) 0).val % 8192 = 0 then 0
        else g (ix2 ⟨((place t (y 0) (y 1)) 0).val - 1, by have : ((place t (y 0) (y 1)) 0).val < 16384 := ((place t (y 0) (y 1)) 0).isLt; omega⟩ ((place t (y 0) (y 1)) 1)) := by
  have ht : t.val < 256 := t.isLt
  have hy : (y 0).val < 128 := (y 0).isLt
  show before _ _ y = if (t.val / 2 * 128 + (y 0).val) % 8192 = 0 then 0 else _
  unfold before
  by_cases e : (y 0).val = 0
  · rw [if_pos e, prev_at]
    by_cases f : t.val / 2 % 64 = 0
    · rw [if_pos f, if_pos (by omega)]
    · rw [if_neg f, if_neg (by omega), blk1_at V c t g h1]
      refine congrArg g (funext fun a => Fin.ext ?_)
      fin_cases a
      · show (t.val / 2 * 8 - 1) * 16 + 15 = t.val / 2 * 128 + (y 0).val - 1
        omega
      · rfl
  · rw [if_neg e, if_neg (by omega), own_at, blk0_at V c t g h0]
    refine congrArg g (funext fun a => Fin.ext ?_)
    fin_cases a
    · show t.val / 2 * 128 + ((y 0).val - 1) = t.val / 2 * 128 + (y 0).val - 1
      omega
    · rfl

/-- The row after a place of the block is the row after it in the array, zero at the end of a sequence. -/
theorem behind_at (c : Dev nD) (t : Fin cfg4.N) (g : FVec Ideal S16384x11008 .f32)
    (h0 : V c (Pipeline.arrRef spec4 0) = truncf .bf16 g bitsLt_bf16_f32)
    (h2 : V c (Pipeline.arrRef spec4 2) = truncf .bf16 g bitsLt_bf16_f32) (y : S128x5504.Idx) :
    behind (k4_pay2 (iblk4 V c 0 t)) (k4_pay4 (grid4.coords t) (View.ld (iblk4 V c 2 t) r4_2)) y
      = if ((place t (y 0) (y 1)) 0).val % 8192 = 8191 then 0
        else g (ix2 ⟨(((place t (y 0) (y 1)) 0).val + 1) % 16384, Nat.mod_lt _ (by decide)⟩ ((place t (y 0) (y 1)) 1)) := by
  have ht : t.val < 256 := t.isLt
  have hy : (y 0).val < 128 := (y 0).isLt
  show behind _ _ y = if (t.val / 2 * 128 + (y 0).val) % 8192 = 8191 then 0 else _
  unfold behind
  by_cases e : (y 0).val = 127
  · rw [if_pos e, next_at]
    by_cases f : t.val / 2 % 64 = 63
    · rw [if_pos f, if_pos (by omega)]
    · rw [if_neg f, if_neg (by omega), blk2_at V c t g h2]
      refine congrArg g (funext fun a => Fin.ext ?_)
      fin_cases a
      · show min (t.val / 2 * 8 + 8) 1023 * 16 = (t.val / 2 * 128 + (y 0).val + 1) % 16384
        omega
      · rfl
  · rw [if_neg e, if_neg (by omega), own_at, blk0_at V c t g h0]
    refine congrArg g (funext fun a => Fin.ext ?_)
    fin_cases a
    · show t.val / 2 * 128 + ((y 0).val + 1) % 128 = (t.val / 2 * 128 + (y 0).val + 1) % 16384
      omega
    · rfl

/-- What grid point `t` stores at block position `y` is the step's term at the place `y` sits at. -/
theorem point (c : Dev nD) (t : Fin cfg4.N) (y) (g u : FVec Ideal S16384x11008 .f32) (w : FVec Ideal S3x11008 .f32)
    (b : FVec Ideal S11008 .f32) (h0 : V c (Pipeline.arrRef spec4 0) = truncf .bf16 g bitsLt_bf16_f32)
    (h1 : V c (Pipeline.arrRef spec4 1) = truncf .bf16 g bitsLt_bf16_f32)
    (h2 : V c (Pipeline.arrRef spec4 2) = truncf .bf16 g bitsLt_bf16_f32)
    (h3 : V c (Pipeline.arrRef spec4 3) = truncf .bf16 u bitsLt_bf16_f32) (h4 : V c (Pipeline.arrRef spec4 4) = w)
    (h5 : V c (Pipeline.arrRef spec4 5) = shapeCast _ b shapeCasts_S11008_S1x11008) :
    k4_pay1 (k4_pay2 (iblk4 V c 0 t)) (k4_pay3 (grid4.coords t) (View.ld (iblk4 V c 1 t) r4_1))
        (k4_pay4 (grid4.coords t) (View.ld (iblk4 V c 2 t) r4_2)) (iota .tc S128x5504 32 [0] iota_S128x5504_d0_w32)
        (iblk4 V c 4 t) (iblk4 V c 5 t) (iblk4 V c 3 t) y
      = (truncf .bf16 (ACT (CONV g w b) u) bitsLt_bf16_f32 : FVec Ideal S16384x11008 .bf16) (((cfg4.win 6).blk t).view.emb y) := by
  rw [pay_at, emb_at, ref_at, before_at V c t g h0 h1, behind_at V c t g h0 h2, own_at, blk0_at V c t g h0,
    blk3_at V c t u h3]
  refine congrArg (fun s => gate s (u (place t (y 0) (y 1)))) ?_
  refine congrArg₂ (· + ·) (congrArg₂ (· + ·) (congrArg₂ (· + ·) (congrArg₂ (· * ·) rfl ?_) (congrArg₂ (· * ·) rfl ?_))
    (congrArg₂ (· * ·) rfl ?_)) ?_
  · exact blk4_at V c t w h4 0 (y 1)
  · exact blk4_at V c t w h4 1 (y 1)
  · exact blk4_at V c t w h4 2 (y 1)
  · exact blk5_at V c t b h5 (y 1)

/-- So the array the call leaves is the step's term. -/
theorem final (c : Dev nD) (g u : FVec Ideal S16384x11008 .f32) (w : FVec Ideal S3x11008 .f32)
    (b : FVec Ideal S11008 .f32) (h0 : V c (Pipeline.arrRef spec4 0) = truncf .bf16 g bitsLt_bf16_f32)
    (h1 : V c (Pipeline.arrRef spec4 1) = truncf .bf16 g bitsLt_bf16_f32)
    (h2 : V c (Pipeline.arrRef spec4 2) = truncf .bf16 g bitsLt_bf16_f32)
    (h3 : V c (Pipeline.arrRef spec4 3) = truncf .bf16 u bitsLt_bf16_f32) (h4 : V c (Pipeline.arrRef spec4 4) = w)
    (h5 : V c (Pipeline.arrRef spec4 5) = shapeCast _ b shapeCasts_S11008_S1x11008) :
    (dat4 V c).arrAt 6 cfg4.N = truncf .bf16 (ACT (CONV g w b) u) bitsLt_bf16_f32 := by
  refine (dat4 V c).arrAt_eq_of_covers 6 _ (by decide +kernel) fun t hf y => ?_
  blk_simp; rw [after4_6]; frame_out
  exact point V c t y g u w b h0 h1 h2 h3 h4 h5

end Cert.LayerIdeal.R4

end
-- ==== Proof.LayerDown.lean ====
module

public import proofs.«01_k».proof.Proof.LayerTerms
public import proofs.«01_k».proof.Proof.Gen.LayerIdeal.Frame.Region5
public import Idealize.ShloMosaic.Lib.Pipeline.ValueKit
public import Idealize.ShloMosaic.Lib.Pointwise
public import Idealize.ShloMosaic.Lib.Claim

@[expose] public section

set_option maxRecDepth 16384

/-!
# The down projection inside the layer

Whatever arrays the call is given, it leaves the constant times the residual plus the product.
-/

noncomputable section

open Idealize.ShloMosaic Idealize.ShloMosaic.TcCoe Idealize.SL.Sem
open Idealize.ShloMosaic.Pipeline (Dat)

namespace Cert.LayerIdeal.R5

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg5.N, win5_0.index t = ![t.val / 8, 0]
    ∧ win5_1.index t = ![0, t.val % 8]
    ∧ win5_2.index t = ![t.val / 8, t.val % 8]
    ∧ win5_3.index t = ![t.val / 8, t.val % 8] :=
  (by decide +kernel : ∀ t : Fin grid5.N, _)

/-- What grid point `t` stores at block position `y` of output window 3 is the step's term at the place `y` sits at. -/
theorem point (c : Dev nD) (t : Fin cfg5.N) (y) (a : FVec Ideal S16384x11008 .f32) (w : FVec Ideal S11008x4096 .f32) (x : FVec Ideal S16384x4096 .f32)
    (ha : V c (Pipeline.arrRef spec5 0) = truncf .bf16 a bitsLt_bf16_f32) (hw : V c (Pipeline.arrRef spec5 1) = truncf .bf16 w bitsLt_bf16_f32) (hx : V c (Pipeline.arrRef spec5 2) = x) :
    k5_pay1 (iblk5 V c 2 t) (iblk5 V c 0 t) (iblk5 V c 1 t) y
      = (DOWN a w x) (((cfg5.win 3).blk t).view.emb y) := by
  pointwise [k5_pay1, DOWN]
  simp only [iblk5]
  rw [ha, hw, hx]
  blk_point [idx_val t]

/-- So the array left in output window 3 is the step's term. -/
theorem final (c : Dev nD) (a : FVec Ideal S16384x11008 .f32) (w : FVec Ideal S11008x4096 .f32) (x : FVec Ideal S16384x4096 .f32)
    (ha : V c (Pipeline.arrRef spec5 0) = truncf .bf16 a bitsLt_bf16_f32) (hw : V c (Pipeline.arrRef spec5 1) = truncf .bf16 w bitsLt_bf16_f32) (hx : V c (Pipeline.arrRef spec5 2) = x) :
    (dat5 V c).arrAt 3 cfg5.N = DOWN a w x := by
  refine (dat5 V c).arrAt_eq_of_covers 3 _ (by decide +kernel) fun t hf y => ?_
  blk_simp; rw [after5_3]; frame_out
  exact point V c t y a w x ha hw hx

end Cert.LayerIdeal.R5

end
-- ==== Proof.LayerNorm2.lean ====
module

public import proofs.«01_k».proof.Proof.LayerTerms
public import proofs.«01_k».proof.Proof.Gen.LayerIdeal.Frame.Region6
public import Idealize.ShloMosaic.Lib.Pipeline.ValueKit
public import Idealize.ShloMosaic.Lib.Pointwise
public import Idealize.ShloMosaic.Lib.Claim

@[expose] public section

set_option maxRecDepth 16384

/-!
# The second layer norm inside the layer

Whatever array the call is given, it leaves its layer norm twice: as it is, and rounded.
-/

noncomputable section

open Idealize.ShloMosaic Idealize.ShloMosaic.TcCoe Idealize.SL.Sem
open Idealize.ShloMosaic.Pipeline (Dat)

namespace Cert.LayerIdeal.R6

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg6.N, win6_0.index t = ![t.val, 0]
    ∧ win6_1.index t = ![0, 0]
    ∧ win6_2.index t = ![0, 0]
    ∧ win6_3.index t = ![t.val, 0]
    ∧ win6_4.index t = ![t.val, 0] :=
  (by decide +kernel : ∀ t : Fin grid6.N, _)

/-- A row read as a matrix of one row, entry by entry. -/
theorem row_at (g : FVec Ideal S4096 .f32) (i : S1x4096.Idx) :
    shapeCast S1x4096 g shapeCasts_S4096_S1x4096 i = g (ix1 (i 1)) := by
  pointwise []

set_option maxHeartbeats 2000000 in
/-- What grid point `t` stores at block position `y` of output window 3 is the step's term at the place `y` sits at. -/
theorem point3 (c : Dev nD) (t : Fin cfg6.N) (y) (z : FVec Ideal S16384x4096 .f32) (g b : FVec Ideal S4096 .f32)
    (hz : V c (Pipeline.arrRef spec6 0) = z) (hg : V c (Pipeline.arrRef spec6 1) = shapeCast _ g shapeCasts_S4096_S1x4096) (hb : V c (Pipeline.arrRef spec6 2) = shapeCast _ b shapeCasts_S4096_S1x4096) :
    k6_pay1 (iblk6 V c 0 t) (iblk6 V c 1 t) (iblk6 V c 2 t) y
      = (LN z g b) (((cfg6.win 3).blk t).view.emb y) := by
  pointwise [k6_pay1, LN, CENT, MEAN]
  simp only [iblk6]
  rw [hz, hg, hb]
  blk_point [idx_val t]
  · rw [row_at]
    refine congrArg g (congrArg ix1 (Fin.ext ?_))
    blk_simp [idx_val t]; try omega
  · rw [row_at]
    refine congrArg b (congrArg ix1 (Fin.ext ?_))
    blk_simp [idx_val t]; try omega

/-- So the array left in output window 3 is the step's term. -/
theorem final3 (c : Dev nD) (z : FVec Ideal S16384x4096 .f32) (g b : FVec Ideal S4096 .f32)
    (hz : V c (Pipeline.arrRef spec6 0) = z) (hg : V c (Pipeline.arrRef spec6 1) = shapeCast _ g shapeCasts_S4096_S1x4096) (hb : V c (Pipeline.arrRef spec6 2) = shapeCast _ b shapeCasts_S4096_S1x4096) :
    (dat6 V c).arrAt 3 cfg6.N = LN z g b := by
  refine (dat6 V c).arrAt_eq_of_covers 3 _ (by decide +kernel) fun t hf y => ?_
  blk_simp; rw [after6_3]; frame_out
  exact point3 V c t y z g b hz hg hb

set_option maxHeartbeats 2000000 in
/-- What grid point `t` stores at block position `y` of output window 4 is the step's term at the place `y` sits at. -/
theorem point4 (c : Dev nD) (t : Fin cfg6.N) (y) (z : FVec Ideal S16384x4096 .f32) (g b : FVec Ideal S4096 .f32)
    (hz : V c (Pipeline.arrRef spec6 0) = z) (hg : V c (Pipeline.arrRef spec6 1) = shapeCast _ g shapeCasts_S4096_S1x4096) (hb : V c (Pipeline.arrRef spec6 2) = shapeCast _ b shapeCasts_S4096_S1x4096) :
    k6_pay2 (iblk6 V c 0 t) (iblk6 V c 1 t) (iblk6 V c 2 t) y
      = (truncf .bf16 (LN z g b) bitsLt_bf16_f32) (((cfg6.win 4).blk t).view.emb y) := by
  pointwise [k6_pay1, k6_pay2, LN, CENT, MEAN]
  simp only [iblk6]
  rw [hz, hg, hb]
  blk_point [idx_val t]
  · rw [row_at]
    refine congrArg g (congrArg ix1 (Fin.ext ?_))
    blk_simp [idx_val t]; try omega
  · rw [row_at]
    refine congrArg b (congrArg ix1 (Fin.ext ?_))
    blk_simp [idx_val t]; try omega

/-- So the array left in output window 4 is the step's term. -/
theorem final4 (c : Dev nD) (z : FVec Ideal S16384x4096 .f32) (g b : FVec Ideal S4096 .f32)
    (hz : V c (Pipeline.arrRef spec6 0) = z) (hg : V c (Pipeline.arrRef spec6 1) = shapeCast _ g shapeCasts_S4096_S1x4096) (hb : V c (Pipeline.arrRef spec6 2) = shapeCast _ b shapeCasts_S4096_S1x4096) :
    (dat6 V c).arrAt 4 cfg6.N = truncf .bf16 (LN z g b) bitsLt_bf16_f32 := by
  refine (dat6 V c).arrAt_eq_of_covers 4 _ (by decide +kernel) fun t hf y => ?_
  blk_simp; rw [after6_4]; frame_out
  exact point4 V c t y z g b hz hg hb

end Cert.LayerIdeal.R6

end
-- ==== Proof.LayerPle.lean ====
module

public import proofs.«01_k».proof.Proof.LayerTerms
public import proofs.«01_k».proof.Proof.Gen.LayerIdeal.Frame.Region7
public import Idealize.ShloMosaic.Lib.Pipeline.ValueKit
public import Idealize.ShloMosaic.Lib.Pointwise
public import Idealize.ShloMosaic.Lib.Claim

@[expose] public section

set_option maxRecDepth 16384

/-!
# The last call of the layer

Whatever arrays the call is given, it leaves `x` plus the gated product.
-/

noncomputable section

open Idealize.ShloMosaic Idealize.ShloMosaic.TcCoe Idealize.SL.Sem
open Idealize.ShloMosaic.Pipeline (Dat)

namespace Cert.LayerIdeal.R7

open Cert.LayerIdeal Cert.LayerIdeal.Gen Cert.LayerRefIdeal.Term

variable (V : (c : Dev nD) → (b : Ref sig .tc) → Buf (Elt Ideal) ((c : Thread nD τ).loc b))

/-- The block each window stages at grid point `t`. -/
theorem idx_val : ∀ t : Fin cfg7.N, win7_0.index t = ![t.val / 8, 0]
    ∧ win7_1.index t = ![t.val / 8, 0]
    ∧ win7_2.index t = ![0, t.val % 8]
    ∧ win7_3.index t = ![0, t.val % 8]
    ∧ win7_4.index t = ![t.val / 8, t.val % 8]
    ∧ win7_5.index t = ![t.val / 8, t.val % 8] :=
  (by decide +kernel : ∀ t : Fin grid7.N, _)

set_option maxHeartbeats 2000000 in
/-- What grid point `t` stores at block position `y` of output window 5 is the step's term at the place `y` sits at. -/
theorem point (c : Dev nD) (t : Fin cfg7.N) (y) (x a : FVec Ideal S16384x4096 .f32) (p : FVec Ideal S16384x256 .f32) (wg : FVec Ideal S4096x4096 .f32) (w : FVec Ideal S256x4096 .f32)
    (ha : V c (Pipeline.arrRef spec7 0) = truncf .bf16 a bitsLt_bf16_f32) (hp : V c (Pipeline.arrRef spec7 1) = truncf .bf16 p bitsLt_bf16_f32) (hg : V c (Pipeline.arrRef spec7 2) = truncf .bf16 wg bitsLt_bf16_f32) (hw : V c (Pipeline.arrRef spec7 3) = truncf .bf16 w bitsLt_bf16_f32) (hx : V c (Pipeline.arrRef spec7 4) = x) :
    k7_pay1 (iblk7 V c 0 t) (iblk7 V c 2 t) (iblk7 V c 4 t) (iblk7 V c 1 t) (iblk7 V c 3 t) y
      = (PLE x a p wg w) (((cfg7.win 5).blk t).view.emb y) := by
  pointwise [k7_pay1, PLE]
  simp only [zero_sub]
  simp only [iblk7]
  rw [ha, hp, hg, hw, hx]
  blk_point [idx_val t]

/-- So the array left in output window 5 is the step's term. -/
theorem final (c : Dev nD) (x a : FVec Ideal S16384x4096 .f32) (p : FVec Ideal S16384x256 .f32) (wg : FVec Ideal S4096x4096 .f32) (w : FVec Ideal S256x4096 .f32)
    (ha : V c (Pipeline.arrRef spec7 0) = truncf .bf16 a bitsLt_bf16_f32) (hp : V c (Pipeline.arrRef spec7 1) = truncf .bf16 p bitsLt_bf16_f32) (hg : V c (Pipeline.arrRef spec7 2) = truncf .bf16 wg bitsLt_bf16_f32) (hw : V c (Pipeline.arrRef spec7 3) = truncf .bf16 w bitsLt_bf16_f32) (hx : V c (Pipeline.arrRef spec7 4) = x) :
    (dat7 V c).arrAt 5 cfg7.N = PLE x a p wg w := by
  refine (dat7 V c).arrAt_eq_of_covers 5 _ (by decide +kernel) fun t hf y => ?_
  blk_simp; rw [after7_5]; frame_out
  exact point V c t y x a p wg w ha hp hg hw hx

end Cert.LayerIdeal.R7

end
-- ==== Proof.Layer.lean ====
module

public import proofs.«01_k».proof.Proof.LayerRun
public import proofs.«01_k».proof.Proof.LayerRef
public import proofs.«01_k».proof.Proof.LayerMix
public import proofs.«01_k».proof.Proof.LayerOut
public import proofs.«01_k».proof.Proof.LayerNorm1
public import proofs.«01_k».proof.Proof.LayerUp
public import proofs.«01_k».proof.Proof.LayerConv
public import proofs.«01_k».proof.Proof.LayerDown
public import proofs.«01_k».proof.Proof.LayerNorm2
public import proofs.«01_k».proof.Proof.LayerPle

@[expose] public section

set_option maxRecDepth 16384

/-!
# The layer from its two branches on

The eight calls one after the other: what each call reads is what the calls before it and the casts and reshapes between
them left, so each call leaves the next step of the reference.
-/

noncomputable section

open Idealize.ShloMosaic Idealize.ShloMosaic.TcCoe Idealize.SL.Sem

namespace Cert.LayerIdeal.Call

open Cert.LayerIdeal Cert.LayerIdeal.Gen Cert.LayerRefIdeal.Term

variable (m : (ℓ : Loc nD τ sig) → Buf (Elt Ideal) ℓ) (ρ : Dev nD → PrngReg) (c : Dev nD)

/-- Call 0 finds argument 0, cast. -/
theorem host_v0 : W1 m ρ c (Proc.devRef .tc main_v0) = (truncf .bf16 ((m ((c : Thread nD τ).loc main_arg0)) : FVec Ideal S16384x4096 .f32) bitsLt_bf16_f32 : FVec Ideal S16384x4096 .bf16) := by
  show StableHlo.after hostOps0 (W0 m ρ c) _ = _
  after_results

/-- Call 0 finds argument 6, cast. -/
theorem host_v1 : W1 m ρ c (Proc.devRef .tc main_v1) = (truncf .bf16 ((m ((c : Thread nD τ).loc main_arg6)) : FVec Ideal S4096x8192 .f32) bitsLt_bf16_f32 : FVec Ideal S4096x8192 .bf16) := by
  show StableHlo.after hostOps0 (W0 m ρ c) _ = _
  after_results

/-- Call 0 finds argument 7, reshaped to one row. -/
theorem host_v2 : W1 m ρ c (Proc.devRef .tc main_v2) = shapeCast _ (m ((c : Thread nD τ).loc main_arg7)) shapeCasts_S8192_S1x8192 := by
  show StableHlo.after hostOps0 (W0 m ρ c) _ = _
  after_results
  rw [W0_args m ρ c main_arg7 (by decide)]
  rfl

/-- Call 0 finds argument 4, cast. -/
theorem host_v3 : W1 m ρ c (Proc.devRef .tc main_v3) = (truncf .bf16 ((m ((c : Thread nD τ).loc main_arg4)) : FVec Ideal S2048x4096 .f32) bitsLt_bf16_f32 : FVec Ideal S2048x4096 .bf16) := by
  show StableHlo.after hostOps0 (W0 m ρ c) _ = _
  after_results

/-- Call 0 finds argument 5, cast. -/
theorem host_v4 : W1 m ρ c (Proc.devRef .tc main_v4) = (truncf .bf16 ((m ((c : Thread nD τ).loc main_arg5)) : FVec Ideal S2048x4096 .f32) bitsLt_bf16_f32 : FVec Ideal S2048x4096 .bf16) := by
  show StableHlo.after hostOps0 (W0 m ρ c) _ = _
  after_results

/-- Call 1 finds argument 8, cast. -/
theorem host_v6 : W3 m ρ c (Proc.devRef .tc main_v6) = (truncf .bf16 ((m ((c : Thread nD τ).loc main_arg8)) : FVec Ideal S4096x4096 .f32) bitsLt_bf16_f32 : FVec Ideal S4096x4096 .bf16) := by
  show StableHlo.after hostOps1 (W2 m ρ c) _ = _
  after_results
  rw [W2_args m ρ c main_arg8 (by decide)]

/-- Call 2 finds argument 9, reshaped to one row. -/
theorem host_v8 : W5 m ρ c (Proc.devRef .tc main_v8) = shapeCast _ (m ((c : Thread nD τ).loc main_arg9)) shapeCasts_S4096_S1x4096 := by
  show StableHlo.after hostOps2 (W4 m ρ c) _ = _
  after_results
  rw [W4_args m ρ c main_arg9 (by decide)]
  rfl

/-- Call 2 finds argument 10, reshaped to one row. -/
theorem host_v9 : W5 m ρ c (Proc.devRef .tc main_v9) = shapeCast _ (m ((c : Thread nD τ).loc main_arg10)) shapeCasts_S4096_S1x4096 := by
  show StableHlo.after hostOps2 (W4 m ρ c) _ = _
  after_results
  rw [W4_args m ρ c main_arg10 (by decide)]
  rfl

/-- Call 3 finds argument 11, cast. -/
theorem host_v11 : W7 m ρ c (Proc.devRef .tc main_v11) = (truncf .bf16 ((m ((c : Thread nD τ).loc main_arg11)) : FVec Ideal S4096x22016 .f32) bitsLt_bf16_f32 : FVec Ideal S4096x22016 .bf16) := by
  show StableHlo.after hostOps3 (W6 m ρ c) _ = _
  after_results
  rw [W6_args m ρ c main_arg11 (by decide)]

/-- Call 4 finds argument 13, reshaped to one row. -/
theorem host_v13 : W9 m ρ c (Proc.devRef .tc main_v13) = shapeCast _ (m ((c : Thread nD τ).loc main_arg13)) shapeCasts_S11008_S1x11008 := by
  show StableHlo.after hostOps4 (W8 m ρ c) _ = _
  after_results
  rw [W8_args m ρ c main_arg13 (by decide)]
  rfl

/-- Call 5 finds argument 14, cast. -/
theorem host_v15 : W11 m ρ c (Proc.devRef .tc main_v15) = (truncf .bf16 ((m ((c : Thread nD τ).loc main_arg14)) : FVec Ideal S11008x4096 .f32) bitsLt_bf16_f32 : FVec Ideal S11008x4096 .bf16) := by
  show StableHlo.after hostOps5 (W10 m ρ c) _ = _
  after_results
  rw [W10_args m ρ c main_arg14 (by decide)]

/-- Call 6 finds argument 15, reshaped to one row. -/
theorem host_v17 : W13 m ρ c (Proc.devRef .tc main_v17) = shapeCast _ (m ((c : Thread nD τ).loc main_arg15)) shapeCasts_S4096_S1x4096 := by
  show StableHlo.after hostOps6 (W12 m ρ c) _ = _
  after_results
  rw [W12_args m ρ c main_arg15 (by decide)]
  rfl

/-- Call 6 finds argument 16, reshaped to one row. -/
theorem host_v18 : W13 m ρ c (Proc.devRef .tc main_v18) = shapeCast _ (m ((c : Thread nD τ).loc main_arg16)) shapeCasts_S4096_S1x4096 := by
  show StableHlo.after hostOps6 (W12 m ρ c) _ = _
  after_results
  rw [W12_args m ρ c main_arg16 (by decide)]
  rfl

/-- Call 7 finds argument 3, cast. -/
theorem host_v20 : W15 m ρ c (Proc.devRef .tc main_v20) = (truncf .bf16 ((m ((c : Thread nD τ).loc main_arg3)) : FVec Ideal S16384x256 .f32) bitsLt_bf16_f32 : FVec Ideal S16384x256 .bf16) := by
  show StableHlo.after hostOps7 (W14 m ρ c) _ = _
  after_results
  rw [W14_args m ρ c main_arg3 (by decide)]

/-- Call 7 finds argument 17, cast. -/
theorem host_v21 : W15 m ρ c (Proc.devRef .tc main_v21) = (truncf .bf16 ((m ((c : Thread nD τ).loc main_arg17)) : FVec Ideal S4096x4096 .f32) bitsLt_bf16_f32 : FVec Ideal S4096x4096 .bf16) := by
  show StableHlo.after hostOps7 (W14 m ρ c) _ = _
  after_results
  rw [W14_args m ρ c main_arg17 (by decide)]

/-- Call 7 finds argument 18, cast. -/
theorem host_v22 : W15 m ρ c (Proc.devRef .tc main_v22) = (truncf .bf16 ((m ((c : Thread nD τ).loc main_arg18)) : FVec Ideal S256x4096 .f32) bitsLt_bf16_f32 : FVec Ideal S256x4096 .bf16) := by
  show StableHlo.after hostOps7 (W14 m ρ c) _ = _
  after_results
  rw [W14_args m ρ c main_arg18 (by decide)]

/-- The first norm's output over the launch memory. -/
abbrev N1 : FVec Ideal Cert.LayerRefIdeal.S16384x4096 .f32 := X1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The second norm's output over the launch memory. -/
abbrev N2 : FVec Ideal Cert.LayerRefIdeal.S16384x4096 .f32 := X2 (N1 m c) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The gated mix over the launch memory. -/
abbrev MX : FVec Ideal Cert.LayerRefIdeal.S16384x4096 .f32 := MIX (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg4)) (m ((c : Thread nD τ).loc main_arg5))

/-- The gate branch after convolution and activation, over the launch memory. -/
abbrev GU : FVec Ideal Cert.LayerRefIdeal.S16384x11008 .f32 :=
  ACT (CONV (UPG (N1 m c) (m ((c : Thread nD τ).loc main_arg11))) (m ((c : Thread nD τ).loc main_arg12)) (m ((c : Thread nD τ).loc main_arg13))) (UPU (N1 m c) (m ((c : Thread nD τ).loc main_arg11)))

/-- Call 0 leaves the gated mix of the two branches. -/
theorem mixed : W2 m ρ c (Proc.devRef .tc main_v5) = (truncf .bf16 (MX m c) bitsLt_bf16_f32 : FVec Ideal S16384x4096 .bf16) :=
  (W2_arr m ρ c 9).trans (R0.final (V1 m ρ) c _ _ _ _ _ _ _
    (host_v0 m ρ c) (W1_args m ρ c main_arg1 (by decide)) (W1_args m ρ c main_arg2 (by decide)) (host_v1 m ρ c) (host_v1 m ρ c) (host_v3 m ρ c) (host_v4 m ρ c) (host_v2 m ρ c) (host_v2 m ρ c))

/-- Call 1 leaves the residual sum of the projected mix. -/
theorem summed : W4 m ρ c (Proc.devRef .tc main_v7) = RES (MX m c) (m ((c : Thread nD τ).loc main_arg8)) (m ((c : Thread nD τ).loc main_arg0)) :=
  (W4_arr m ρ c 3).trans (R1.final (V3 m ρ) c _ _ _
    ((W3_of m ρ c main_v5 (by decide)).trans (mixed m ρ c)) (host_v6 m ρ c) (W3_args m ρ c main_arg0 (by decide)))

/-- Call 2 leaves the first norm's output. -/
theorem norm1 : W6 m ρ c (Proc.devRef .tc main_v10_0) = N1 m c :=
  (W6_arr m ρ c 3).trans (R2.final3 (V5 m ρ) c _ _ _
    ((W5_of m ρ c main_v7 (by decide)).trans (summed m ρ c)) (host_v8 m ρ c) (host_v9 m ρ c))

/-- Call 2 leaves the cast of the first norm's output. -/
theorem norm1_cast : W6 m ρ c (Proc.devRef .tc main_v10_1) = (truncf .bf16 (N1 m c) bitsLt_bf16_f32 : FVec Ideal S16384x4096 .bf16) :=
  (W6_arr m ρ c 4).trans (R2.final4 (V5 m ρ) c _ _ _
    ((W5_of m ρ c main_v7 (by decide)).trans (summed m ρ c)) (host_v8 m ρ c) (host_v9 m ρ c))

/-- Call 3 leaves the first half of the up projection. -/
theorem up_left : W8 m ρ c (Proc.devRef .tc main_v12_0) = (truncf .bf16 (UPU (N1 m c) (m ((c : Thread nD τ).loc main_arg11))) bitsLt_bf16_f32 : FVec Ideal S16384x11008 .bf16) :=
  (W8_arr m ρ c 3).trans (R3.final3 (V7 m ρ) c _ _
    ((W7_of m ρ c main_v10_1 (by decide)).trans (norm1_cast m ρ c)) (host_v11 m ρ c) (host_v11 m ρ c))

/-- Call 3 leaves the second half of the up projection. -/
theorem up_right : W8 m ρ c (Proc.devRef .tc main_v12_1) = (truncf .bf16 (UPG (N1 m c) (m ((c : Thread nD τ).loc main_arg11))) bitsLt_bf16_f32 : FVec Ideal S16384x11008 .bf16) :=
  (W8_arr m ρ c 4).trans (R3.final4 (V7 m ρ) c _ _
    ((W7_of m ρ c main_v10_1 (by decide)).trans (norm1_cast m ρ c)) (host_v11 m ρ c) (host_v11 m ρ c))

/-- Call 4 leaves the convolved and gated branch. -/
theorem gated : W10 m ρ c (Proc.devRef .tc main_v14) = (truncf .bf16 (GU m c) bitsLt_bf16_f32 : FVec Ideal S16384x11008 .bf16) :=
  (W10_arr m ρ c 6).trans (R4.final (V9 m ρ) c _ _ _ _
    ((W9_of m ρ c main_v12_1 (by decide)).trans (up_right m ρ c)) ((W9_of m ρ c main_v12_1 (by decide)).trans (up_right m ρ c)) ((W9_of m ρ c main_v12_1 (by decide)).trans (up_right m ρ c)) ((W9_of m ρ c main_v12_0 (by decide)).trans (up_left m ρ c)) (W9_args m ρ c main_arg12 (by decide)) (host_v13 m ρ c))

/-- The first norm's output is still there when call 5 begins. -/
theorem norm1_kept : W11 m ρ c (Proc.devRef .tc main_v10_0) = N1 m c :=
  (W11_of m ρ c main_v10_0 (by decide)).trans ((W10_of m ρ c main_v10_0 (by decide +kernel)).trans
    ((W9_of m ρ c main_v10_0 (by decide)).trans ((W8_of m ρ c main_v10_0 (by decide +kernel)).trans
      ((W7_of m ρ c main_v10_0 (by decide)).trans (norm1 m ρ c)))))

/-- Call 5 leaves the residual sum of the feed-forward net. -/
theorem fed : W12 m ρ c (Proc.devRef .tc main_v16) = DOWN (GU m c) (m ((c : Thread nD τ).loc main_arg14)) (N1 m c) :=
  (W12_arr m ρ c 3).trans (R5.final (V11 m ρ) c _ _ _
    ((W11_of m ρ c main_v14 (by decide)).trans (gated m ρ c)) (host_v15 m ρ c) (norm1_kept m ρ c))

/-- Call 6 leaves the second norm's output. -/
theorem norm2 : W14 m ρ c (Proc.devRef .tc main_v19_0) = N2 m c :=
  (W14_arr m ρ c 3).trans (R6.final3 (V13 m ρ) c _ _ _
    ((W13_of m ρ c main_v16 (by decide)).trans (fed m ρ c)) (host_v17 m ρ c) (host_v18 m ρ c))

/-- Call 6 leaves the cast of the second norm's output. -/
theorem norm2_cast : W14 m ρ c (Proc.devRef .tc main_v19_1) = (truncf .bf16 (N2 m c) bitsLt_bf16_f32 : FVec Ideal S16384x4096 .bf16) :=
  (W14_arr m ρ c 4).trans (R6.final4 (V13 m ρ) c _ _ _
    ((W13_of m ρ c main_v16 (by decide)).trans (fed m ρ c)) (host_v17 m ρ c) (host_v18 m ρ c))

/-- Call 7 leaves the result. -/
theorem result : W16 m ρ c (Proc.devRef .tc main_v23) = PLE (N2 m c) (N2 m c) (m ((c : Thread nD τ).loc main_arg3)) (m ((c : Thread nD τ).loc main_arg17)) (m ((c : Thread nD τ).loc main_arg18)) :=
  (W16_arr m ρ c 5).trans (R7.final (V15 m ρ) c _ _ _ _ _
    ((W15_of m ρ c main_v19_1 (by decide)).trans (norm2_cast m ρ c)) (host_v20 m ρ c) (host_v21 m ρ c) (host_v22 m ρ c) ((W15_of m ρ c main_v19_0 (by decide)).trans (norm2 m ρ c)))

/-- Every run of the layer ends with the reference's chain of steps in its result and the arguments as launched. -/
theorem run : θ_run defs (onTc (τ := τ) (main (F := Ideal))) ⟨m, fun _ => 0, ρ⟩ (fun r => ∀ c : Dev nD,
      r.2.mem ((c.tc : Thread nD τ).loc main_v23)
        = PLE (X2 (X1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (X2 (X1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg3)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1.trans (result m ρ c), (h c).2⟩) (run_boundary m ρ)

end Cert.LayerIdeal.Call

end
-- ==== Proof.lean ====
/-
The proof of `Cert.Claim`. Each program's frames are the generated ones; each value claim joins the run of the
kernel's program, the run of the reference's program and the theorem `final` of the program's own module under
`Proof/`, which says that the two result arrays are equal. For `Layer` both runs are the theorems `run` of its own
modules, which state the results as one and the same term.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Attn
public import proofs.«01_k».proof.Proof.Gen.Pre_finite_qk
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Up
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Down
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Out
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Mix
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Norm
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Ple
public import proofs.«01_k».proof.Proof.Gen.HgQ
public import proofs.«01_k».proof.Proof.Gen.HgQ.Skeleton
public import proofs.«01_k».proof.Proof.Gen.HgQ.Launch
public import proofs.«01_k».proof.Proof.Gen.HgQ.Points
public import proofs.«01_k».proof.Proof.Gen.HgQ.Frame
public import proofs.«01_k».proof.Proof.Gen.HgQIdeal
public import proofs.«01_k».proof.Proof.Gen.HgQIdeal.Skeleton
public import proofs.«01_k».proof.Proof.Gen.HgQIdeal.Launch
public import proofs.«01_k».proof.Proof.Gen.HgQIdeal.Points
public import proofs.«01_k».proof.Proof.Gen.HgQIdeal.Frame
public import proofs.«01_k».proof.Proof.Gen.HgQIdeal.Value
public import proofs.«01_k».proof.Proof.Gen.HgQRefIdeal
public import proofs.«01_k».proof.Proof.Gen.HgQRefIdeal.Run
public import proofs.«01_k».proof.Proof.HgQ
public import proofs.«01_k».proof.Proof.Gen.HgZ
public import proofs.«01_k».proof.Proof.Gen.HgZ.Skeleton
public import proofs.«01_k».proof.Proof.Gen.HgZ.Launch
public import proofs.«01_k».proof.Proof.Gen.HgZ.Points
public import proofs.«01_k».proof.Proof.Gen.HgZ.Frame
public import proofs.«01_k».proof.Proof.Gen.HgZIdeal
public import proofs.«01_k».proof.Proof.Gen.HgZIdeal.Skeleton
public import proofs.«01_k».proof.Proof.Gen.HgZIdeal.Launch
public import proofs.«01_k».proof.Proof.Gen.HgZIdeal.Points
public import proofs.«01_k».proof.Proof.Gen.HgZIdeal.Frame
public import proofs.«01_k».proof.Proof.Gen.HgZIdeal.Value
public import proofs.«01_k».proof.Proof.Gen.HgZRefIdeal
public import proofs.«01_k».proof.Proof.Gen.HgZRefIdeal.Run
public import proofs.«01_k».proof.Proof.HgZ
public import proofs.«01_k».proof.Proof.Gen.HgVG
public import proofs.«01_k».proof.Proof.Gen.HgVG.Skeleton
public import proofs.«01_k».proof.Proof.Gen.HgVG.Launch
public import proofs.«01_k».proof.Proof.Gen.HgVG.Points
public import proofs.«01_k».proof.Proof.Gen.HgVG.Frame
public import proofs.«01_k».proof.Proof.Gen.HgVGIdeal
public import proofs.«01_k».proof.Proof.Gen.HgVGIdeal.Skeleton
public import proofs.«01_k».proof.Proof.Gen.HgVGIdeal.Launch
public import proofs.«01_k».proof.Proof.Gen.HgVGIdeal.Points
public import proofs.«01_k».proof.Proof.Gen.HgVGIdeal.Frame
public import proofs.«01_k».proof.Proof.Gen.HgVGIdeal.Value
public import proofs.«01_k».proof.Proof.Gen.HgVGRefIdeal
public import proofs.«01_k».proof.Proof.Gen.HgVGRefIdeal.Run
public import proofs.«01_k».proof.Proof.HgVG
public import proofs.«01_k».proof.Proof.Gen.Layer
public import proofs.«01_k».proof.Proof.Gen.Layer.Skeleton
public import proofs.«01_k».proof.Proof.Gen.Layer.Launch
public import proofs.«01_k».proof.Proof.Gen.Layer.Points
public import proofs.«01_k».proof.Proof.Gen.Layer.Frame
public import proofs.«01_k».proof.Proof.Gen.LayerIdeal
public import proofs.«01_k».proof.Proof.Gen.LayerIdeal.Skeleton
public import proofs.«01_k».proof.Proof.Gen.LayerIdeal.Launch
public import proofs.«01_k».proof.Proof.Gen.LayerIdeal.Points
public import proofs.«01_k».proof.Proof.Gen.LayerIdeal.Frame
public import proofs.«01_k».proof.Proof.Gen.LayerRefIdeal
public import proofs.«01_k».proof.Proof.Gen.LayerRefIdeal.Run
public import proofs.«01_k».proof.Proof.Layer
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference of `Attn` runs and leaves its arguments as they were. -/
theorem ref_Attn : quiescent_AttnRefIdeal := by
  intro m g hpre
  hlo_run
  · simp
  · exact sem_eq_zero_of_no_sems rfl _

/-- The reference of `Up` runs and leaves its arguments as they were. -/
theorem ref_Up : quiescent_UpRefIdeal := by
  intro m g hpre
  hlo_run
  · simp
  · exact sem_eq_zero_of_no_sems rfl _

/-- The reference of `Down` runs and leaves its arguments as they were. -/
theorem ref_Down : quiescent_DownRefIdeal := by
  intro m g hpre
  hlo_run
  · simp
  · exact sem_eq_zero_of_no_sems rfl _

/-- The reference of `Out` runs and leaves its arguments as they were. -/
theorem ref_Out : quiescent_OutRefIdeal := by
  intro m g hpre
  hlo_run
  · simp
  · exact sem_eq_zero_of_no_sems rfl _

/-- The reference of `Mix` runs and leaves its arguments as they were. -/
theorem ref_Mix : quiescent_MixRefIdeal := by
  intro m g hpre
  hlo_run
  · simp
  · exact sem_eq_zero_of_no_sems rfl _

/-- The reference of `Norm` runs and leaves its arguments as they were. -/
theorem ref_Norm : quiescent_NormRefIdeal := by
  intro m g hpre
  hlo_run
  · simp
  · exact sem_eq_zero_of_no_sems rfl _

/-- The reference of `Ple` runs and leaves its arguments as they were. -/
theorem ref_Ple : quiescent_PleRefIdeal := by
  intro m g hpre
  hlo_run
  · simp
  · exact sem_eq_zero_of_no_sems rfl _

/-- The reference of `HgQ` runs and leaves its arguments as they were. -/
theorem ref_HgQ : quiescent_HgQRefIdeal := by
  intro m g hpre
  hlo_run
  · simp
  · exact sem_eq_zero_of_no_sems rfl _

/-- The reference of `HgZ` runs and leaves its arguments as they were. -/
theorem ref_HgZ : quiescent_HgZRefIdeal := by
  intro m g hpre
  hlo_run
  · simp
  · exact sem_eq_zero_of_no_sems rfl _

/-- The reference of `HgVG` runs and leaves its arguments as they were. -/
theorem ref_HgVG : quiescent_HgVGRefIdeal := by
  intro m g hpre
  hlo_run
  · simp
  · exact sem_eq_zero_of_no_sems rfl _

/-- The reference of `Layer` runs and leaves its arguments as they were. -/
theorem ref_Layer : quiescent_LayerRefIdeal := by
  intro m g hpre
  hlo_run
  · simp
  · exact sem_eq_zero_of_no_sems rfl _

set_option maxRecDepth 100000 in
/-- The arrays of program `AttnIdeal` are those of its reference. -/
theorem value_Attn : algebraic_AttnIdeal_AttnRefIdeal_pre_finite_qk := by
  pair_intro
  · run_from Cert.AttnIdeal.Gen.run_main m g
  · run_from Cert.AttnRefIdeal.Value.run m' g'
    exact (Cert.AttnIdeal.Call.final m c (hpre c)).symm

/-- The arrays of program `UpIdeal` are those of its reference. -/
theorem value_Up : algebraic_UpIdeal_UpRefIdeal := by
  pair_intro
  · run_from Cert.UpIdeal.Gen.run_main m g
  · run_from Cert.UpRefIdeal.Value.run m' g'
    · exact (Cert.UpIdeal.Call.final3 m c).symm
    · exact (Cert.UpIdeal.Call.final4 m c).symm

/-- The arrays of program `DownIdeal` are those of its reference. -/
theorem value_Down : algebraic_DownIdeal_DownRefIdeal := by
  pair_intro
  · run_from Cert.DownIdeal.Gen.run_main m g
  · run_from Cert.DownRefIdeal.Value.run m' g'
    exact (Cert.DownIdeal.Call.final m c).symm

/-- The arrays of program `OutIdeal` are those of its reference. -/
theorem value_Out : algebraic_OutIdeal_OutRefIdeal := by
  pair_intro
  · run_from Cert.OutIdeal.Gen.run_main m g
  · run_from Cert.OutRefIdeal.Value.run m' g'
    exact (Cert.OutIdeal.Call.final m c).symm

/-- The arrays of program `MixIdeal` are those of its reference. -/
theorem value_Mix : algebraic_MixIdeal_MixRefIdeal := by
  pair_intro
  · run_from Cert.MixIdeal.Gen.run_main m g
  · run_from Cert.MixRefIdeal.Value.run m' g'
    exact (Cert.MixIdeal.Call.final m c).symm

/-- The arrays of program `NormIdeal` are those of its reference. -/
theorem value_Norm : algebraic_NormIdeal_NormRefIdeal := by
  pair_intro
  · run_from Cert.NormIdeal.Gen.run_main m g
  · run_from Cert.NormRefIdeal.Value.run m' g'
    · exact (Cert.NormIdeal.Call.final3 m c).symm
    · exact (Cert.NormIdeal.Call.final4 m c).symm

/-- The arrays of program `PleIdeal` are those of its reference. -/
theorem value_Ple : algebraic_PleIdeal_PleRefIdeal := by
  pair_intro
  · run_from Cert.PleIdeal.Gen.run_main m g
  · run_from Cert.PleRefIdeal.Value.run m' g'
    exact (Cert.PleIdeal.Call.final m c).symm

/-- The arrays of program `HgQIdeal` are those of its reference. -/
theorem value_HgQ : algebraic_HgQIdeal_HgQRefIdeal := by
  pair_intro
  · run_from Cert.HgQIdeal.Gen.run_main m g
  · run_from Cert.HgQRefIdeal.Value.run m' g'
    exact (Cert.HgQIdeal.Call.final m c).symm

/-- The arrays of program `HgZIdeal` are those of its reference. -/
theorem value_HgZ : algebraic_HgZIdeal_HgZRefIdeal := by
  pair_intro
  · run_from Cert.HgZIdeal.Gen.run_main m g
  · run_from Cert.HgZRefIdeal.Value.run m' g'
    exact (Cert.HgZIdeal.Call.final m c).symm

/-- The arrays of program `HgVGIdeal` are those of its reference. -/
theorem value_HgVG : algebraic_HgVGIdeal_HgVGRefIdeal := by
  pair_intro
  · run_from Cert.HgVGIdeal.Gen.run_main m g
  · run_from Cert.HgVGRefIdeal.Value.run m' g'
    exact (Cert.HgVGIdeal.Call.final m c).symm

set_option maxHeartbeats 4000000 in
set_option maxRecDepth 100000 in
/-- The arrays of program `LayerIdeal` are those of its reference. -/
theorem value_Layer : algebraic_LayerIdeal_LayerRefIdeal := by
  pair_intro
  · run_from Cert.LayerIdeal.Call.run m g
  · run_from Cert.LayerRefIdeal.Term.run m' g'

/-- The certificate's claim: every program's stated facts, frames, preservation and value claims. -/
theorem claim : Cert.Claim :=
  ⟨Cert.Attn.Gen.facts,
    Cert.AttnIdeal.Gen.facts,
    Cert.AttnRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.Mix.Gen.facts,
    Cert.MixIdeal.Gen.facts,
    Cert.MixRefIdeal.Gen.facts,
    Cert.Norm.Gen.facts,
    Cert.NormIdeal.Gen.facts,
    Cert.NormRefIdeal.Gen.facts,
    Cert.Ple.Gen.facts,
    Cert.PleIdeal.Gen.facts,
    Cert.PleRefIdeal.Gen.facts,
    Cert.HgQ.Gen.facts,
    Cert.HgQIdeal.Gen.facts,
    Cert.HgQRefIdeal.Gen.facts,
    Cert.HgZ.Gen.facts,
    Cert.HgZIdeal.Gen.facts,
    Cert.HgZRefIdeal.Gen.facts,
    Cert.HgVG.Gen.facts,
    Cert.HgVGIdeal.Gen.facts,
    Cert.HgVGRefIdeal.Gen.facts,
    Cert.Layer.Gen.facts,
    Cert.LayerIdeal.Gen.facts,
    Cert.LayerRefIdeal.Gen.facts,
    Cert.Pre_finite_qk.Gen.facts,
    fun m ρ _ => Cert.Attn.Gen.frame m ρ,
    fun m ρ _ => Cert.AttnIdeal.Gen.frame m ρ,
    fun m ρ _ => Cert.AttnIdeal.Gen.frame m ρ,
    ref_Attn,
    fun m g _ => ref_Attn m g trivial,
    fun m ρ _ => Cert.Up.Gen.frame m ρ,
    fun m ρ _ => Cert.UpIdeal.Gen.frame m ρ,
    ref_Up,
    fun m ρ _ => Cert.Down.Gen.frame m ρ,
    fun m ρ _ => Cert.DownIdeal.Gen.frame m ρ,
    ref_Down,
    fun m ρ _ => Cert.Out.Gen.frame m ρ,
    fun m ρ _ => Cert.OutIdeal.Gen.frame m ρ,
    ref_Out,
    fun m ρ _ => Cert.Mix.Gen.frame m ρ,
    fun m ρ _ => Cert.MixIdeal.Gen.frame m ρ,
    ref_Mix,
    fun m ρ _ => Cert.Norm.Gen.frame m ρ,
    fun m ρ _ => Cert.NormIdeal.Gen.frame m ρ,
    ref_Norm,
    fun m ρ _ => Cert.Ple.Gen.frame m ρ,
    fun m ρ _ => Cert.PleIdeal.Gen.frame m ρ,
    ref_Ple,
    fun m ρ _ => Cert.HgQ.Gen.frame m ρ,
    fun m ρ _ => Cert.HgQIdeal.Gen.frame m ρ,
    ref_HgQ,
    fun m ρ _ => Cert.HgZ.Gen.frame m ρ,
    fun m ρ _ => Cert.HgZIdeal.Gen.frame m ρ,
    ref_HgZ,
    fun m ρ _ => Cert.HgVG.Gen.frame m ρ,
    fun m ρ _ => Cert.HgVGIdeal.Gen.frame m ρ,
    ref_HgVG,
    fun m ρ _ => Cert.Layer.Gen.frame m ρ,
    fun m ρ _ => Cert.LayerIdeal.Gen.frame m ρ,
    ref_Layer,
    trivial,
    value_Attn,
    trivial,
    value_Up,
    trivial,
    value_Down,
    trivial,
    value_Out,
    trivial,
    value_Mix,
    trivial,
    value_Norm,
    trivial,
    value_Ple,
    trivial,
    value_HgQ,
    trivial,
    value_HgZ,
    trivial,
    value_HgVG,
    trivial,
    value_Layer⟩

end Cert.Proof

end
